-- ==== Defs.lean ====
def Pre_Kernel [hPre_channels : Cert.Pre_channels.Facts] (m : (ℓ : Loc Cert.Kernel.nD Cert.Kernel.τ Cert.Kernel.sig) → Buf (Elt Bits) ℓ) : Prop :=
  ∀ c : Dev Cert.Kernel.nD,
    (Cert.Pre_channels.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_channels : Cert.Pre_channels.Facts] (m : (ℓ : Loc Cert.KernelIdeal.nD Cert.KernelIdeal.τ Cert.KernelIdeal.sig) → Buf (Elt Ideal) ℓ) : Prop :=
  ∀ c : Dev Cert.KernelIdeal.nD,
    (Cert.Pre_channels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_channels [hPre_channels : Cert.Pre_channels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_channels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_channels : Cert.Pre_channels.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_channels : Cert.Pre_channels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_channels [hReferenceIdeal : Cert.ReferenceIdeal.Facts] [hPre_channels : Cert.Pre_channels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_channels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_channels : Cert.Pre_channels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_cst) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_cst) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_channels : Cert.Pre_channels.Facts),
    quiescent_Kernel (hKernel := hKernel) (hPre_channels := hPre_channels)
    ∧ quiescent_KernelIdeal (hKernelIdeal := hKernelIdeal) (hPre_channels := hPre_channels)
    ∧ quiescent_ReferenceIdeal (hReferenceIdeal := hReferenceIdeal)
    ∧ quiescent_ReferenceIdeal_pre_channels (hReferenceIdeal := hReferenceIdeal) (hPre_channels := hPre_channels)
    ∧ preserves_Kernel_KernelIdeal
    ∧ algebraic_KernelIdeal_ReferenceIdeal (hKernelIdeal := hKernelIdeal) (hReferenceIdeal := hReferenceIdeal) (hPre_channels := hPre_channels)
-- ==== Pre_channels.lean ====
abbrev S16x96x224x224 : Shape := ⟨4, ![16, 96, 224, 224]⟩
abbrev S96 : Shape := ⟨1, ![96]⟩
abbrev S_ : Shape := ⟨0, ![]⟩

class Facts : Prop where
  bcast_S_S96 : S_.BroadcastsInDim S96 (![] : Fin 0 → Fin S96.rank)
  reducesTo_S96_S_d0 : S96.ReducesTo [0] S_
  h_S_ : 0 < S_.numel

variable [Facts]

def fn {F : FTy → Type} [FloatOps F] (main_arg0 : FVec F S16x96x224x224 .f32) (main_arg1 : IVec S96 32) : IVec S_ 1 :=
  let main_c : IVec S_ 32 := constantI S_ 32 0#32
  let main_v0 : IVec S96 32 := broadcastInDim S96 ![] bcast_S_S96 main_c
  let main_v1 : IVec S96 1 := cmpi .sge main_arg1 main_v0
  let main_c_0 : IVec S_ 32 := constantI S_ 32 96#32
  let main_v2 : IVec S96 32 := broadcastInDim S96 ![] bcast_S_S96 main_c_0
  let main_v3 : IVec S96 1 := cmpi .slt main_arg1 main_v2
  let main_v4 : IVec S96 1 := andi main_v1 main_v3
  let main_c_1 : IVec S_ 1 := constantI S_ 1 1#1
  let main_v5 : IVec S_ 1 := (fun x v => Host.reduce IntOp.andi x v reducesTo_S96_S_d0 h_S_) main_v4 main_c_1
  main_v5
-- ==== Kernel.lean ====
abbrev S16x96x224x224 : Shape := ⟨4, ![16, 96, 224, 224]⟩
abbrev S96 : Shape := ⟨1, ![96]⟩
abbrev S8x56x224 : Shape := ⟨3, ![8, 56, 224]⟩
abbrev S8 : Shape := ⟨1, ![8]⟩
abbrev S_ : Shape := ⟨0, ![]⟩
abbrev S16 : Shape := ⟨1, ![16]⟩
abbrev S1x56x224 : Shape := ⟨3, ![1, 56, 224]⟩
abbrev S56x224 : Shape := ⟨2, ![56, 224]⟩
abbrev S1x1x56x224 : Shape := ⟨4, ![1, 1, 56, 224]⟩
abbrev S1 : Shape := ⟨1, ![1]⟩

abbrev nBuf : Table → Nat
  | .hbm => 4
  | .local .scVector .vmem => 2
  | _ => 0

abbrev bufTy : (tb : Table) → Fin (nBuf tb) → BufTy
  | .hbm, ⟨0, _⟩ => ⟨S16x96x224x224, .f32⟩
  | .hbm, ⟨1, _⟩ => ⟨S96, .i32⟩
  | .hbm, ⟨2, _⟩ => ⟨S16x96x224x224, .f32⟩
  | .hbm, ⟨3, _⟩ => ⟨S_, .f32⟩
  | .local .scVector .vmem, ⟨0, _⟩ => ⟨S96, .i32⟩
  | .local .scVector .vmem, ⟨1, _⟩ => ⟨S8x56x224, .f32⟩
  | _, _ => ⟨S16x96x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c0_i32_11 : BitVec 32 := 0#32
  let v30 : BitVec 32 := Scalar.addi v29 c0_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c16_i32 : BitVec 32 := 16#32
  let c0_i32_14 : BitVec 32 := 0#32
  let v37 : BitVec 1 := Scalar.cmpi .sgt c16_i32 c0_i32_14
  let v38 : BitVec 32 := Scalar.extui v37
  let c0_i32_15 : BitVec 32 := 0#32
  let v39 : BitVec 1 := Scalar.cmpi .slt c16_i32 c0_i32_15
  let v40 : BitVec 32 := Scalar.extui v39
  let v41 : BitVec 32 := Scalar.subi v38 v40
  let v42 : BitVec 1 := Scalar.cmpi .ne v36 v41
  let v43 : BitVec 32 := Scalar.remsi v30 c16_i32
  let c0_i32_16 : BitVec 32 := 0#32
  let v44 : BitVec 1 := Scalar.cmpi .ne v43 c0_i32_16
  let v45 : BitVec 1 := Scalar.andi v42 v44
  let v31 : BitVec 32 := Scalar.divsi v30 c16_i32
  let c1_i32_17 : BitVec 32 := 1#32
  let v46 : BitVec 32 := Scalar.subi v31 c1_i32_17
  let v47 : BitVec 32 := Scalar.select v45 v46 v31
  let c16_i32_18 : BitVec 32 := 16#32
  let v48 : BitVec 32 := Scalar.muli v47 c16_i32_18
  let v49 : Index := Scalar.indexCast v48
  ![v49.toNat]
def k0_off2 (i : grid0.Coords) (v68 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_30 : BitVec 32 := 0#32
  let c0_i32_31 : BitVec 32 := 0#32
  ![v18.toNat, v68.toNat, 0, 0]

def k0_chk1 (i : grid0.Coords) (v68 : BitVec 32) : Prop :=
  (∀ a, (k0_off2 i v68) a + S1x1x56x224.size a ≤ S16x96x224x224.size a)
theorem k0_off2_inb : ∀ (i : grid0.Coords) (v68 : BitVec 32) (k0_hw1 : k0_chk1 i v68), ∀ a, (k0_off2 i v68) a + S1x1x56x224.size a ≤ S16x96x224x224.size a := fun i v68 k0_hw1 => k0_hw1

def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c0_i32_36 : BitVec 32 := 0#32
  let v79 : BitVec 32 := Scalar.addi v29 c0_i32_36
  let c0_i32_38 : BitVec 32 := 0#32
  let v81 : BitVec 1 := Scalar.cmpi .sgt v79 c0_i32_38
  let v82 : BitVec 32 := Scalar.extui v81
  let c0_i32_39 : BitVec 32 := 0#32
  let v83 : BitVec 1 := Scalar.cmpi .slt v79 c0_i32_39
  let v84 : BitVec 32 := Scalar.extui v83
  let v85 : BitVec 32 := Scalar.subi v82 v84
  let c16_i32_37 : BitVec 32 := 16#32
  let c0_i32_40 : BitVec 32 := 0#32
  let v86 : BitVec 1 := Scalar.cmpi .sgt c16_i32_37 c0_i32_40
  let v87 : BitVec 32 := Scalar.extui v86
  let c0_i32_41 : BitVec 32 := 0#32
  let v88 : BitVec 1 := Scalar.cmpi .slt c16_i32_37 c0_i32_41
  let v89 : BitVec 32 := Scalar.extui v88
  let v90 : BitVec 32 := Scalar.subi v87 v89
  let v91 : BitVec 1 := Scalar.cmpi .ne v85 v90
  let v92 : BitVec 32 := Scalar.remsi v79 c16_i32_37
  let c0_i32_42 : BitVec 32 := 0#32
  let v93 : BitVec 1 := Scalar.cmpi .ne v92 c0_i32_42
  let v94 : BitVec 1 := Scalar.andi v91 v93
  let v80 : BitVec 32 := Scalar.divsi v79 c16_i32_37
  let c1_i32_43 : BitVec 32 := 1#32
  let v95 : BitVec 32 := Scalar.subi v80 c1_i32_43
  let v96 : BitVec 32 := Scalar.select v94 v95 v80
  let c16_i32_44 : BitVec 32 := 16#32
  let v97 : BitVec 32 := Scalar.muli v96 c16_i32_44
  let v98 : Index := Scalar.indexCast v97
  ![v98.toNat]
def k0_off4 (i : grid0.Coords) (v117 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c56_i32 : BitVec 32 := 56#32
  let c0_i32_57 : BitVec 32 := 0#32
  ![v18.toNat, v117.toNat, 56, 0]

def k0_chk2 (i : grid0.Coords) (v117 : BitVec 32) : Prop :=
  (∀ a, (k0_off4 i v117) a + S1x1x56x224.size a ≤ S16x96x224x224.size a)
theorem k0_off4_inb : ∀ (i : grid0.Coords) (v117 : BitVec 32) (k0_hw2 : k0_chk2 i v117), ∀ a, (k0_off4 i v117) a + S1x1x56x224.size a ≤ S16x96x224x224.size a := fun i v117 k0_hw2 => k0_hw2

def k0_off5 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c0_i32_62 : BitVec 32 := 0#32
  let v128 : BitVec 32 := Scalar.addi v29 c0_i32_62
  let c0_i32_64 : BitVec 32 := 0#32
  let v130 : BitVec 1 := Scalar.cmpi .sgt v128 c0_i32_64
  let v131 : BitVec 32 := Scalar.extui v130
  let c0_i32_65 : BitVec 32 := 0#32
  let v132 : BitVec 1 := Scalar.cmpi .slt v128 c0_i32_65
  let v133 : BitVec 32 := Scalar.extui v132
  let v134 : BitVec 32 := Scalar.subi v131 v133
  let c16_i32_63 : BitVec 32 := 16#32
  let c0_i32_66 : BitVec 32 := 0#32
  let v135 : BitVec 1 := Scalar.cmpi .sgt c16_i32_63 c0_i32_66
  let v136 : BitVec 32 := Scalar.extui v135
  let c0_i32_67 : BitVec 32 := 0#32
  let v137 : BitVec 1 := Scalar.cmpi .slt c16_i32_63 c0_i32_67
  let v138 : BitVec 32 := Scalar.extui v137
  let v139 : BitVec 32 := Scalar.subi v136 v138
  let v140 : BitVec 1 := Scalar.cmpi .ne v134 v139
  let v141 : BitVec 32 := Scalar.remsi v128 c16_i32_63
  let c0_i32_68 : BitVec 32 := 0#32
  let v142 : BitVec 1 := Scalar.cmpi .ne v141 c0_i32_68
  let v143 : BitVec 1 := Scalar.andi v140 v142
  let v129 : BitVec 32 := Scalar.divsi v128 c16_i32_63
  let c1_i32_69 : BitVec 32 := 1#32
  let v144 : BitVec 32 := Scalar.subi v129 c1_i32_69
  let v145 : BitVec 32 := Scalar.select v143 v144 v129
  let c16_i32_70 : BitVec 32 := 16#32
  let v146 : BitVec 32 := Scalar.muli v145 c16_i32_70
  let v147 : Index := Scalar.indexCast v146
  ![v147.toNat]
def k0_off6 (i : grid0.Coords) (v166 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c112_i32 : BitVec 32 := 112#32
  let c0_i32_83 : BitVec 32 := 0#32
  ![v18.toNat, v166.toNat, 112, 0]

def k0_chk3 (i : grid0.Coords) (v166 : BitVec 32) : Prop :=
  (∀ a, (k0_off6 i v166) a + S1x1x56x224.size a ≤ S16x96x224x224.size a)
theorem k0_off6_inb : ∀ (i : grid0.Coords) (v166 : BitVec 32) (k0_hw3 : k0_chk3 i v166), ∀ a, (k0_off6 i v166) a + S1x1x56x224.size a ≤ S16x96x224x224.size a := fun i v166 k0_hw3 => k0_hw3

def k0_off7 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c0_i32_88 : BitVec 32 := 0#32
  let v177 : BitVec 32 := Scalar.addi v29 c0_i32_88
  let c0_i32_90 : BitVec 32 := 0#32
  let v179 : BitVec 1 := Scalar.cmpi .sgt v177 c0_i32_90
  let v180 : BitVec 32 := Scalar.extui v179
  let c0_i32_91 : BitVec 32 := 0#32
  let v181 : BitVec 1 := Scalar.cmpi .slt v177 c0_i32_91
  let v182 : BitVec 32 := Scalar.extui v181
  let v183 : BitVec 32 := Scalar.subi v180 v182
  let c16_i32_89 : BitVec 32 := 16#32
  let c0_i32_92 : BitVec 32 := 0#32
  let v184 : BitVec 1 := Scalar.cmpi .sgt c16_i32_89 c0_i32_92
  let v185 : BitVec 32 := Scalar.extui v184
  let c0_i32_93 : BitVec 32 := 0#32
  let v186 : BitVec 1 := Scalar.cmpi .slt c16_i32_89 c0_i32_93
  let v187 : BitVec 32 := Scalar.extui v186
  let v188 : BitVec 32 := Scalar.subi v185 v187
  let v189 : BitVec 1 := Scalar.cmpi .ne v183 v188
  let v190 : BitVec 32 := Scalar.remsi v177 c16_i32_89
  let c0_i32_94 : BitVec 32 := 0#32
  let v191 : BitVec 1 := Scalar.cmpi .ne v190 c0_i32_94
  let v192 : BitVec 1 := Scalar.andi v189 v191
  let v178 : BitVec 32 := Scalar.divsi v177 c16_i32_89
  let c1_i32_95 : BitVec 32 := 1#32
  let v193 : BitVec 32 := Scalar.subi v178 c1_i32_95
  let v194 : BitVec 32 := Scalar.select v192 v193 v178
  let c16_i32_96 : BitVec 32 := 16#32
  let v195 : BitVec 32 := Scalar.muli v194 c16_i32_96
  let v196 : Index := Scalar.indexCast v195
  ![v196.toNat]
def k0_off8 (i : grid0.Coords) (v215 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c168_i32 : BitVec 32 := 168#32
  let c0_i32_108 : BitVec 32 := 0#32
  ![v18.toNat, v215.toNat, 168, 0]

def k0_chk4 (i : grid0.Coords) (v215 : BitVec 32) : Prop :=
  (∀ a, (k0_off8 i v215) a + S1x1x56x224.size a ≤ S16x96x224x224.size a)
theorem k0_off8_inb : ∀ (i : grid0.Coords) (v215 : BitVec 32) (k0_hw4 : k0_chk4 i v215), ∀ a, (k0_off8 i v215) a + S1x1x56x224.size a ≤ S16x96x224x224.size a := fun i v215 k0_hw4 => k0_hw4

@[reducible] def k0_t1_loop : Scf.Loop 32 :=
  let c0_i32_114 : BitVec 32 := 0#32
  let c24_i32 : BitVec 32 := 24#32
  let v226 : BitVec 32 := Scalar.addi c0_i32_114 c24_i32
  let c1_i32_115 : BitVec 32 := 1#32
  ⟨c0_i32_114, v226, c1_i32_115⟩
def k0_off9 (i : grid0.Coords) (k0_t1 : Fin k0_t1_loop.trips) (c0_i32_209 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c8_i32 : BitVec 32 := 8#32
  let c0_i32_114 : BitVec 32 := 0#32
  let c1_i32_115 : BitVec 32 := 1#32
  let arg9 : BitVec 32 := Scf.iv c0_i32_114 c1_i32_115 k0_t1
  let v308 : BitVec 32 := Scalar.muli c8_i32 arg9
  let v309 : BitVec 32 := Scalar.addi v308 c0_i32_209
  let c0_i32_229 : BitVec 32 := 0#32
  let v331 : BitVec 1 := Scalar.cmpi .sgt v309 c0_i32_229
  let v332 : BitVec 32 := Scalar.extui v331
  let c0_i32_230 : BitVec 32 := 0#32
  let v333 : BitVec 1 := Scalar.cmpi .slt v309 c0_i32_230
  let v334 : BitVec 32 := Scalar.extui v333
  let v335 : BitVec 32 := Scalar.subi v332 v334
  let c4_i32_228 : BitVec 32 := 4#32
  let c0_i32_231 : BitVec 32 := 0#32
  let v336 : BitVec 1 := Scalar.cmpi .sgt c4_i32_228 c0_i32_231
  let v337 : BitVec 32 := Scalar.extui v336
  let c0_i32_232 : BitVec 32 := 0#32
  let v338 : BitVec 1 := Scalar.cmpi .slt c4_i32_228 c0_i32_232
  let v339 : BitVec 32 := Scalar.extui v338
  let v340 : BitVec 32 := Scalar.subi v337 v339
  let v341 : BitVec 1 := Scalar.cmpi .ne v335 v340
  let v342 : BitVec 32 := Scalar.remsi v309 c4_i32_228
  let c0_i32_233 : BitVec 32 := 0#32
  let v343 : BitVec 1 := Scalar.cmpi .ne v342 c0_i32_233
  let v344 : BitVec 1 := Scalar.andi v341 v343
  let v330 : BitVec 32 := Scalar.divsi v309 c4_i32_228
  let c1_i32_234 : BitVec 32 := 1#32
  let v345 : BitVec 32 := Scalar.subi v330 c1_i32_234
  let v346 : BitVec 32 := Scalar.select v344 v345 v330
  let v347 : BitVec 32 := Scalar.addi v29 v346
  let c4_i32_222 : BitVec 32 := 4#32
  let c0_i32_223 : BitVec 32 := 0#32
  let v320 : BitVec 1 := Scalar.cmpi .eq c4_i32_222 c0_i32_223
  let c1_i32_224 : BitVec 32 := 1#32
  let v321 : BitVec 32 := Scalar.select v320 c1_i32_224 c4_i32_222
  let v322 : BitVec 32 := Scalar.remsi v309 v321
  let c0_i32_226 : BitVec 32 := 0#32
  let v324 : BitVec 1 := Scalar.cmpi .slt v322 c0_i32_226
  let c0_i32_227 : BitVec 32 := 0#32
  let v325 : BitVec 1 := Scalar.cmpi .slt v321 c0_i32_227
  let v326 : BitVec 1 := Scalar.xori v324 v325
  let c0_i32_225 : BitVec 32 := 0#32
  let v323 : BitVec 1 := Scalar.cmpi .ne v322 c0_i32_225
  let v327 : BitVec 1 := Scalar.andi v326 v323
  let v328 : BitVec 32 := Scalar.addi v322 v321
  let v329 : BitVec 32 := Scalar.select v327 v328 v322
  let c56_i32_235 : BitVec 32 := 56#32
  let v348 : BitVec 32 := Scalar.muli v329 c56_i32_235
  let c0_i32_240 : BitVec 32 := 0#32
  ![v18.toNat, v347.toNat, v348.toNat, 0]
def k0_cond1 (k0_t1 : Fin k0_t1_loop.trips) : BitVec 1 :=
  let c8_i32 : BitVec 32 := 8#32
  let c0_i32_114 : BitVec 32 := 0#32
  let c1_i32_115 : BitVec 32 := 1#32
  let arg9 : BitVec 32 := Scf.iv c0_i32_114 c1_i32_115 k0_t1
  let v308 : BitVec 32 := Scalar.muli c8_i32 arg9
  let c0_i32_209 : BitVec 32 := 0#32
  let v309 : BitVec 32 := Scalar.addi v308 c0_i32_209
  let c4_i32_244 : BitVec 32 := 4#32
  let v359 : BitVec 32 := Scalar.addi v309 c4_i32_244
  let c192_i32 : BitVec 32 := 192#32
  let v360 : BitVec 1 := Scalar.cmpi .slt v359 c192_i32
  let v361 : BitVec 32 := Scalar.extui v360
  let c0_i32_245 : BitVec 32 := 0#32
  let v362 : BitVec 1 := Scalar.cmpi .ne v361 c0_i32_245
  v362

def k0_off10 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c8_i32 : BitVec 32 := 8#32
  let c0_i32_114 : BitVec 32 := 0#32
  let c1_i32_115 : BitVec 32 := 1#32
  let arg9 : BitVec 32 := Scf.iv c0_i32_114 c1_i32_115 k0_t1
  let v308 : BitVec 32 := Scalar.muli c8_i32 arg9
  let c0_i32_209 : BitVec 32 := 0#32
  let v309 : BitVec 32 := Scalar.addi v308 c0_i32_209
  let c4_i32_244 : BitVec 32 := 4#32
  let v359 : BitVec 32 := Scalar.addi v309 c4_i32_244
  let c0_i32_529 : BitVec 32 := 0#32
  let v762 : BitVec 1 := Scalar.cmpi .sgt v359 c0_i32_529
  let v763 : BitVec 32 := Scalar.extui v762
  let c0_i32_530 : BitVec 32 := 0#32
  let v764 : BitVec 1 := Scalar.cmpi .slt v359 c0_i32_530
  let v765 : BitVec 32 := Scalar.extui v764
  let v766 : BitVec 32 := Scalar.subi v763 v765
  let c4_i32_528 : BitVec 32 := 4#32
  let c0_i32_531 : BitVec 32 := 0#32
  let v767 : BitVec 1 := Scalar.cmpi .sgt c4_i32_528 c0_i32_531
  let v768 : BitVec 32 := Scalar.extui v767
  let c0_i32_532 : BitVec 32 := 0#32
  let v769 : BitVec 1 := Scalar.cmpi .slt c4_i32_528 c0_i32_532
  let v770 : BitVec 32 := Scalar.extui v769
  let v771 : BitVec 32 := Scalar.subi v768 v770
  let v772 : BitVec 1 := Scalar.cmpi .ne v766 v771
  let v773 : BitVec 32 := Scalar.remsi v359 c4_i32_528
  let c0_i32_533 : BitVec 32 := 0#32
  let v774 : BitVec 1 := Scalar.cmpi .ne v773 c0_i32_533
  let v775 : BitVec 1 := Scalar.andi v772 v774
  let v761 : BitVec 32 := Scalar.divsi v359 c4_i32_528
  let c1_i32_534 : BitVec 32 := 1#32
  let v776 : BitVec 32 := Scalar.subi v761 c1_i32_534
  let v777 : BitVec 32 := Scalar.select v775 v776 v761
  let v778 : BitVec 32 := Scalar.addi v29 v777
  let c0_i32_536 : BitVec 32 := 0#32
  let v780 : BitVec 1 := Scalar.cmpi .sgt v778 c0_i32_536
  let v781 : BitVec 32 := Scalar.extui v780
  let c0_i32_537 : BitVec 32 := 0#32
  let v782 : BitVec 1 := Scalar.cmpi .slt v778 c0_i32_537
  let v783 : BitVec 32 := Scalar.extui v782
  let v784 : BitVec 32 := Scalar.subi v781 v783
  let c16_i32_535 : BitVec 32 := 16#32
  let c0_i32_538 : BitVec 32 := 0#32
  let v785 : BitVec 1 := Scalar.cmpi .sgt c16_i32_535 c0_i32_538
  let v786 : BitVec 32 := Scalar.extui v785
  let c0_i32_539 : BitVec 32 := 0#32
  let v787 : BitVec 1 := Scalar.cmpi .slt c16_i32_535 c0_i32_539
  let v788 : BitVec 32 := Scalar.extui v787
  let v789 : BitVec 32 := Scalar.subi v786 v788
  let v790 : BitVec 1 := Scalar.cmpi .ne v784 v789
  let v791 : BitVec 32 := Scalar.remsi v778 c16_i32_535
  let c0_i32_540 : BitVec 32 := 0#32
  let v792 : BitVec 1 := Scalar.cmpi .ne v791 c0_i32_540
  let v793 : BitVec 1 := Scalar.andi v790 v792
  let v779 : BitVec 32 := Scalar.divsi v778 c16_i32_535
  let c1_i32_541 : BitVec 32 := 1#32
  let v794 : BitVec 32 := Scalar.subi v779 c1_i32_541
  let v795 : BitVec 32 := Scalar.select v793 v794 v779
  let c16_i32_542 : BitVec 32 := 16#32
  let v796 : BitVec 32 := Scalar.muli v795 c16_i32_542
  let v797 : Index := Scalar.indexCast v796
  ![v797.toNat]
def k0_off11 (i : grid0.Coords) (k0_t1 : Fin k0_t1_loop.trips) (v816 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c8_i32 : BitVec 32 := 8#32
  let c0_i32_114 : BitVec 32 := 0#32
  let c1_i32_115 : BitVec 32 := 1#32
  let arg9 : BitVec 32 := Scf.iv c0_i32_114 c1_i32_115 k0_t1
  let v308 : BitVec 32 := Scalar.muli c8_i32 arg9
  let c0_i32_209 : BitVec 32 := 0#32
  let v309 : BitVec 32 := Scalar.addi v308 c0_i32_209
  let c4_i32_244 : BitVec 32 := 4#32
  let v359 : BitVec 32 := Scalar.addi v309 c4_i32_244
  let c4_i32_522 : BitVec 32 := 4#32
  let c0_i32_523 : BitVec 32 := 0#32
  let v751 : BitVec 1 := Scalar.cmpi .eq c4_i32_522 c0_i32_523
  let c1_i32_524 : BitVec 32 := 1#32
  let v752 : BitVec 32 := Scalar.select v751 c1_i32_524 c4_i32_522
  let v753 : BitVec 32 := Scalar.remsi v359 v752
  let c0_i32_526 : BitVec 32 := 0#32
  let v755 : BitVec 1 := Scalar.cmpi .slt v753 c0_i32_526
  let c0_i32_527 : BitVec 32 := 0#32
  let v756 : BitVec 1 := Scalar.cmpi .slt v752 c0_i32_527
  let v757 : BitVec 1 := Scalar.xori v755 v756
  let c0_i32_525 : BitVec 32 := 0#32
  let v754 : BitVec 1 := Scalar.cmpi .ne v753 c0_i32_525
  let v758 : BitVec 1 := Scalar.andi v757 v754
  let v759 : BitVec 32 := Scalar.addi v753 v752
  let v760 : BitVec 32 := Scalar.select v758 v759 v753
  let c56_i32_551 : BitVec 32 := 56#32
  let v817 : BitVec 32 := Scalar.muli v760 c56_i32_551
  let c0_i32_556 : BitVec 32 := 0#32
  ![v18.toNat, v816.toNat, v817.toNat, 0]

def k0_chk5 (i : grid0.Coords) (k0_t1 : Fin k0_t1_loop.trips) (v816 : BitVec 32) : Prop :=
  (∀ (k0_h1 : k0_cond1 k0_t1 = 1#1), ∀ a, (k0_off11 i k0_t1 v816) a + S1x1x56x224.size a ≤ S16x96x224x224.size a)
theorem k0_off11_inb : ∀ (i : grid0.Coords) (k0_t1 : Fin k0_t1_loop.trips) (v816 : BitVec 32) (k0_hw5 : k0_chk5 i k0_t1 v816), ∀ (k0_h1 : k0_cond1 k0_t1 = 1#1), ∀ a, (k0_off11 i k0_t1 v816) a + S1x1x56x224.size a ≤ S16x96x224x224.size a := fun i k0_t1 v816 k0_hw5 k0_h1 => k0_hw5 k0_h1

def k0_cond3 (k0_t1 : Fin k0_t1_loop.trips) : BitVec 1 :=
  let c8_i32_246 : BitVec 32 := 8#32
  let c0_i32_114 : BitVec 32 := 0#32
  let c1_i32_115 : BitVec 32 := 1#32
  let arg9 : BitVec 32 := Scf.iv c0_i32_114 c1_i32_115 k0_t1
  let v363 : BitVec 32 := Scalar.muli c8_i32_246 arg9
  let c1_i32_247 : BitVec 32 := 1#32
  let v364 : BitVec 32 := Scalar.addi v363 c1_i32_247
  let c4_i32_282 : BitVec 32 := 4#32
  let v414 : BitVec 32 := Scalar.addi v364 c4_i32_282
  let c192_i32_283 : BitVec 32 := 192#32
  let v415 : BitVec 1 := Scalar.cmpi .slt v414 c192_i32_283
  let v416 : BitVec 32 := Scalar.extui v415
  let c0_i32_284 : BitVec 32 := 0#32
  let v417 : BitVec 1 := Scalar.cmpi .ne v416 c0_i32_284
  v417

def k0_off12 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c8_i32_246 : BitVec 32 := 8#32
  let c0_i32_114 : BitVec 32 := 0#32
  let c1_i32_115 : BitVec 32 := 1#32
  let arg9 : BitVec 32 := Scf.iv c0_i32_114 c1_i32_115 k0_t1
  let v363 : BitVec 32 := Scalar.muli c8_i32_246 arg9
  let c1_i32_247 : BitVec 32 := 1#32
  let v364 : BitVec 32 := Scalar.addi v363 c1_i32_247
  let c4_i32_282 : BitVec 32 := 4#32
  let v414 : BitVec 32 := Scalar.addi v364 c4_i32_282
  let c0_i32_529 : BitVec 32 := 0#32
  let v762 : BitVec 1 := Scalar.cmpi .sgt v414 c0_i32_529
  let v763 : BitVec 32 := Scalar.extui v762
  let c0_i32_530 : BitVec 32 := 0#32
  let v764 : BitVec 1 := Scalar.cmpi .slt v414 c0_i32_530
  let v765 : BitVec 32 := Scalar.extui v764
  let v766 : BitVec 32 := Scalar.subi v763 v765
  let c4_i32_528 : BitVec 32 := 4#32
  let c0_i32_531 : BitVec 32 := 0#32
  let v767 : BitVec 1 := Scalar.cmpi .sgt c4_i32_528 c0_i32_531
  let v768 : BitVec 32 := Scalar.extui v767
  let c0_i32_532 : BitVec 32 := 0#32
  let v769 : BitVec 1 := Scalar.cmpi .slt c4_i32_528 c0_i32_532
  let v770 : BitVec 32 := Scalar.extui v769
  let v771 : BitVec 32 := Scalar.subi v768 v770
  let v772 : BitVec 1 := Scalar.cmpi .ne v766 v771
  let v773 : BitVec 32 := Scalar.remsi v414 c4_i32_528
  let c0_i32_533 : BitVec 32 := 0#32
  let v774 : BitVec 1 := Scalar.cmpi .ne v773 c0_i32_533
  let v775 : BitVec 1 := Scalar.andi v772 v774
  let v761 : BitVec 32 := Scalar.divsi v414 c4_i32_528
  let c1_i32_534 : BitVec 32 := 1#32
  let v776 : BitVec 32 := Scalar.subi v761 c1_i32_534
  let v777 : BitVec 32 := Scalar.select v775 v776 v761
  let v778 : BitVec 32 := Scalar.addi v29 v777
  let c0_i32_536 : BitVec 32 := 0#32
  let v780 : BitVec 1 := Scalar.cmpi .sgt v778 c0_i32_536
  let v781 : BitVec 32 := Scalar.extui v780
  let c0_i32_537 : BitVec 32 := 0#32
  let v782 : BitVec 1 := Scalar.cmpi .slt v778 c0_i32_537
  let v783 : BitVec 32 := Scalar.extui v782
  let v784 : BitVec 32 := Scalar.subi v781 v783
  let c16_i32_535 : BitVec 32 := 16#32
  let c0_i32_538 : BitVec 32 := 0#32
  let v785 : BitVec 1 := Scalar.cmpi .sgt c16_i32_535 c0_i32_538
  let v786 : BitVec 32 := Scalar.extui v785
  let c0_i32_539 : BitVec 32 := 0#32
  let v787 : BitVec 1 := Scalar.cmpi .slt c16_i32_535 c0_i32_539
  let v788 : BitVec 32 := Scalar.extui v787
  let v789 : BitVec 32 := Scalar.subi v786 v788
  let v790 : BitVec 1 := Scalar.cmpi .ne v784 v789
  let v791 : BitVec 32 := Scalar.remsi v778 c16_i32_535
  let c0_i32_540 : BitVec 32 := 0#32
  let v792 : BitVec 1 := Scalar.cmpi .ne v791 c0_i32_540
  let v793 : BitVec 1 := Scalar.andi v790 v792
  let v779 : BitVec 32 := Scalar.divsi v778 c16_i32_535
  let c1_i32_541 : BitVec 32 := 1#32
  let v794 : BitVec 32 := Scalar.subi v779 c1_i32_541
  let v795 : BitVec 32 := Scalar.select v793 v794 v779
  let c16_i32_542 : BitVec 32 := 16#32
  let v796 : BitVec 32 := Scalar.muli v795 c16_i32_542
  let v797 : Index := Scalar.indexCast v796
  ![v797.toNat]
def k0_off13 (i : grid0.Coords) (k0_t1 : Fin k0_t1_loop.trips) (v816 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c8_i32_246 : BitVec 32 := 8#32
  let c0_i32_114 : BitVec 32 := 0#32
  let c1_i32_115 : BitVec 32 := 1#32
  let arg9 : BitVec 32 := Scf.iv c0_i32_114 c1_i32_115 k0_t1
  let v363 : BitVec 32 := Scalar.muli c8_i32_246 arg9
  let c1_i32_247 : BitVec 32 := 1#32
  let v364 : BitVec 32 := Scalar.addi v363 c1_i32_247
  let c4_i32_282 : BitVec 32 := 4#32
  let v414 : BitVec 32 := Scalar.addi v364 c4_i32_282
  let c4_i32_522 : BitVec 32 := 4#32
  let c0_i32_523 : BitVec 32 := 0#32
  let v751 : BitVec 1 := Scalar.cmpi .eq c4_i32_522 c0_i32_523
  let c1_i32_524 : BitVec 32 := 1#32
  let v752 : BitVec 32 := Scalar.select v751 c1_i32_524 c4_i32_522
  let v753 : BitVec 32 := Scalar.remsi v414 v752
  let c0_i32_526 : BitVec 32 := 0#32
  let v755 : BitVec 1 := Scalar.cmpi .slt v753 c0_i32_526
  let c0_i32_527 : BitVec 32 := 0#32
  let v756 : BitVec 1 := Scalar.cmpi .slt v752 c0_i32_527
  let v757 : BitVec 1 := Scalar.xori v755 v756
  let c0_i32_525 : BitVec 32 := 0#32
  let v754 : BitVec 1 := Scalar.cmpi .ne v753 c0_i32_525
  let v758 : BitVec 1 := Scalar.andi v757 v754
  let v759 : BitVec 32 := Scalar.addi v753 v752
  let v760 : BitVec 32 := Scalar.select v758 v759 v753
  let c56_i32_551 : BitVec 32 := 56#32
  let v817 : BitVec 32 := Scalar.muli v760 c56_i32_551
  let c0_i32_556 : BitVec 32 := 0#32
  ![v18.toNat, v816.toNat, v817.toNat, 0]

def k0_chk6 (i : grid0.Coords) (k0_t1 : Fin k0_t1_loop.trips) (v816 : BitVec 32) : Prop :=
  (∀ (k0_h3 : k0_cond3 k0_t1 = 1#1), ∀ a, (k0_off13 i k0_t1 v816) a + S1x1x56x224.size a ≤ S16x96x224x224.size a)
theorem k0_off13_inb : ∀ (i : grid0.Coords) (k0_t1 : Fin k0_t1_loop.trips) (v816 : BitVec 32) (k0_hw6 : k0_chk6 i k0_t1 v816), ∀ (k0_h3 : k0_cond3 k0_t1 = 1#1), ∀ a, (k0_off13 i k0_t1 v816) a + S1x1x56x224.size a ≤ S16x96x224x224.size a := fun i k0_t1 v816 k0_hw6 k0_h3 => k0_hw6 k0_h3

def k0_cond5 (k0_t1 : Fin k0_t1_loop.trips) : BitVec 1 :=
  let c8_i32_285 : BitVec 32 := 8#32
  let c0_i32_114 : BitVec 32 := 0#32
  let c1_i32_115 : BitVec 32 := 1#32
  let arg9 : BitVec 32 := Scf.iv c0_i32_114 c1_i32_115 k0_t1
  let v418 : BitVec 32 := Scalar.muli c8_i32_285 arg9
  let c2_i32_286 : BitVec 32 := 2#32
  let v419 : BitVec 32 := Scalar.addi v418 c2_i32_286
  let c4_i32_321 : BitVec 32 := 4#32
  let v469 : BitVec 32 := Scalar.addi v419 c4_i32_321
  let c192_i32_322 : BitVec 32 := 192#32
  let v470 : BitVec 1 := Scalar.cmpi .slt v469 c192_i32_322
  let v471 : BitVec 32 := Scalar.extui v470
  let c0_i32_323 : BitVec 32 := 0#32
  let v472 : BitVec 1 := Scalar.cmpi .ne v471 c0_i32_323
  v472

def k0_off14 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c8_i32_285 : BitVec 32 := 8#32
  let c0_i32_114 : BitVec 32 := 0#32
  let c1_i32_115 : BitVec 32 := 1#32
  let arg9 : BitVec 32 := Scf.iv c0_i32_114 c1_i32_115 k0_t1
  let v418 : BitVec 32 := Scalar.muli c8_i32_285 arg9
  let c2_i32_286 : BitVec 32 := 2#32
  let v419 : BitVec 32 := Scalar.addi v418 c2_i32_286
  let c4_i32_321 : BitVec 32 := 4#32
  let v469 : BitVec 32 := Scalar.addi v419 c4_i32_321
  let c0_i32_529 : BitVec 32 := 0#32
  let v762 : BitVec 1 := Scalar.cmpi .sgt v469 c0_i32_529
  let v763 : BitVec 32 := Scalar.extui v762
  let c0_i32_530 : BitVec 32 := 0#32
  let v764 : BitVec 1 := Scalar.cmpi .slt v469 c0_i32_530
  let v765 : BitVec 32 := Scalar.extui v764
  let v766 : BitVec 32 := Scalar.subi v763 v765
  let c4_i32_528 : BitVec 32 := 4#32
  let c0_i32_531 : BitVec 32 := 0#32
  let v767 : BitVec 1 := Scalar.cmpi .sgt c4_i32_528 c0_i32_531
  let v768 : BitVec 32 := Scalar.extui v767
  let c0_i32_532 : BitVec 32 := 0#32
  let v769 : BitVec 1 := Scalar.cmpi .slt c4_i32_528 c0_i32_532
  let v770 : BitVec 32 := Scalar.extui v769
  let v771 : BitVec 32 := Scalar.subi v768 v770
  let v772 : BitVec 1 := Scalar.cmpi .ne v766 v771
  let v773 : BitVec 32 := Scalar.remsi v469 c4_i32_528
  let c0_i32_533 : BitVec 32 := 0#32
  let v774 : BitVec 1 := Scalar.cmpi .ne v773 c0_i32_533
  let v775 : BitVec 1 := Scalar.andi v772 v774
  let v761 : BitVec 32 := Scalar.divsi v469 c4_i32_528
  let c1_i32_534 : BitVec 32 := 1#32
  let v776 : BitVec 32 := Scalar.subi v761 c1_i32_534
  let v777 : BitVec 32 := Scalar.select v775 v776 v761
  let v778 : BitVec 32 := Scalar.addi v29 v777
  let c0_i32_536 : BitVec 32 := 0#32
  let v780 : BitVec 1 := Scalar.cmpi .sgt v778 c0_i32_536
  let v781 : BitVec 32 := Scalar.extui v780
  let c0_i32_537 : BitVec 32 := 0#32
  let v782 : BitVec 1 := Scalar.cmpi .slt v778 c0_i32_537
  let v783 : BitVec 32 := Scalar.extui v782
  let v784 : BitVec 32 := Scalar.subi v781 v783
  let c16_i32_535 : BitVec 32 := 16#32
  let c0_i32_538 : BitVec 32 := 0#32
  let v785 : BitVec 1 := Scalar.cmpi .sgt c16_i32_535 c0_i32_538
  let v786 : BitVec 32 := Scalar.extui v785
  let c0_i32_539 : BitVec 32 := 0#32
  let v787 : BitVec 1 := Scalar.cmpi .slt c16_i32_535 c0_i32_539
  let v788 : BitVec 32 := Scalar.extui v787
  let v789 : BitVec 32 := Scalar.subi v786 v788
  let v790 : BitVec 1 := Scalar.cmpi .ne v784 v789
  let v791 : BitVec 32 := Scalar.remsi v778 c16_i32_535
  let c0_i32_540 : BitVec 32 := 0#32
  let v792 : BitVec 1 := Scalar.cmpi .ne v791 c0_i32_540
  let v793 : BitVec 1 := Scalar.andi v790 v792
  let v779 : BitVec 32 := Scalar.divsi v778 c16_i32_535
  let c1_i32_541 : BitVec 32 := 1#32
  let v794 : BitVec 32 := Scalar.subi v779 c1_i32_541
  let v795 : BitVec 32 := Scalar.select v793 v794 v779
  let c16_i32_542 : BitVec 32 := 16#32
  let v796 : BitVec 32 := Scalar.muli v795 c16_i32_542
  let v797 : Index := Scalar.indexCast v796
  ![v797.toNat]
def k0_off15 (i : grid0.Coords) (k0_t1 : Fin k0_t1_loop.trips) (v816 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c8_i32_285 : BitVec 32 := 8#32
  let c0_i32_114 : BitVec 32 := 0#32
  let c1_i32_115 : BitVec 32 := 1#32
  let arg9 : BitVec 32 := Scf.iv c0_i32_114 c1_i32_115 k0_t1
  let v418 : BitVec 32 := Scalar.muli c8_i32_285 arg9
  let c2_i32_286 : BitVec 32 := 2#32
  let v419 : BitVec 32 := Scalar.addi v418 c2_i32_286
  let c4_i32_321 : BitVec 32 := 4#32
  let v469 : BitVec 32 := Scalar.addi v419 c4_i32_321
  let c4_i32_522 : BitVec 32 := 4#32
  let c0_i32_523 : BitVec 32 := 0#32
  let v751 : BitVec 1 := Scalar.cmpi .eq c4_i32_522 c0_i32_523
  let c1_i32_524 : BitVec 32 := 1#32
  let v752 : BitVec 32 := Scalar.select v751 c1_i32_524 c4_i32_522
  let v753 : BitVec 32 := Scalar.remsi v469 v752
  let c0_i32_526 : BitVec 32 := 0#32
  let v755 : BitVec 1 := Scalar.cmpi .slt v753 c0_i32_526
  let c0_i32_527 : BitVec 32 := 0#32
  let v756 : BitVec 1 := Scalar.cmpi .slt v752 c0_i32_527
  let v757 : BitVec 1 := Scalar.xori v755 v756
  let c0_i32_525 : BitVec 32 := 0#32
  let v754 : BitVec 1 := Scalar.cmpi .ne v753 c0_i32_525
  let v758 : BitVec 1 := Scalar.andi v757 v754
  let v759 : BitVec 32 := Scalar.addi v753 v752
  let v760 : BitVec 32 := Scalar.select v758 v759 v753
  let c56_i32_551 : BitVec 32 := 56#32
  let v817 : BitVec 32 := Scalar.muli v760 c56_i32_551
  let c0_i32_556 : BitVec 32 := 0#32
  ![v18.toNat, v816.toNat, v817.toNat, 0]

def k0_chk7 (i : grid0.Coords) (k0_t1 : Fin k0_t1_loop.trips) (v816 : BitVec 32) : Prop :=
  (∀ (k0_h5 : k0_cond5 k0_t1 = 1#1), ∀ a, (k0_off15 i k0_t1 v816) a + S1x1x56x224.size a ≤ S16x96x224x224.size a)
theorem k0_off15_inb : ∀ (i : grid0.Coords) (k0_t1 : Fin k0_t1_loop.trips) (v816 : BitVec 32) (k0_hw7 : k0_chk7 i k0_t1 v816), ∀ (k0_h5 : k0_cond5 k0_t1 = 1#1), ∀ a, (k0_off15 i k0_t1 v816) a + S1x1x56x224.size a ≤ S16x96x224x224.size a := fun i k0_t1 v816 k0_hw7 k0_h5 => k0_hw7 k0_h5

def k0_cond7 (k0_t1 : Fin k0_t1_loop.trips) : BitVec 1 :=
  let c8_i32_324 : BitVec 32 := 8#32
  let c0_i32_114 : BitVec 32 := 0#32
  let c1_i32_115 : BitVec 32 := 1#32
  let arg9 : BitVec 32 := Scf.iv c0_i32_114 c1_i32_115 k0_t1
  let v473 : BitVec 32 := Scalar.muli c8_i32_324 arg9
  let c3_i32_325 : BitVec 32 := 3#32
  let v474 : BitVec 32 := Scalar.addi v473 c3_i32_325
  let c4_i32_360 : BitVec 32 := 4#32
  let v524 : BitVec 32 := Scalar.addi v474 c4_i32_360
  let c192_i32_361 : BitVec 32 := 192#32
  let v525 : BitVec 1 := Scalar.cmpi .slt v524 c192_i32_361
  let v526 : BitVec 32 := Scalar.extui v525
  let c0_i32_362 : BitVec 32 := 0#32
  let v527 : BitVec 1 := Scalar.cmpi .ne v526 c0_i32_362
  v527

def k0_off16 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c8_i32_324 : BitVec 32 := 8#32
  let c0_i32_114 : BitVec 32 := 0#32
  let c1_i32_115 : BitVec 32 := 1#32
  let arg9 : BitVec 32 := Scf.iv c0_i32_114 c1_i32_115 k0_t1
  let v473 : BitVec 32 := Scalar.muli c8_i32_324 arg9
  let c3_i32_325 : BitVec 32 := 3#32
  let v474 : BitVec 32 := Scalar.addi v473 c3_i32_325
  let c4_i32_360 : BitVec 32 := 4#32
  let v524 : BitVec 32 := Scalar.addi v474 c4_i32_360
  let c0_i32_529 : BitVec 32 := 0#32
  let v762 : BitVec 1 := Scalar.cmpi .sgt v524 c0_i32_529
  let v763 : BitVec 32 := Scalar.extui v762
  let c0_i32_530 : BitVec 32 := 0#32
  let v764 : BitVec 1 := Scalar.cmpi .slt v524 c0_i32_530
  let v765 : BitVec 32 := Scalar.extui v764
  let v766 : BitVec 32 := Scalar.subi v763 v765
  let c4_i32_528 : BitVec 32 := 4#32
  let c0_i32_531 : BitVec 32 := 0#32
  let v767 : BitVec 1 := Scalar.cmpi .sgt c4_i32_528 c0_i32_531
  let v768 : BitVec 32 := Scalar.extui v767
  let c0_i32_532 : BitVec 32 := 0#32
  let v769 : BitVec 1 := Scalar.cmpi .slt c4_i32_528 c0_i32_532
  let v770 : BitVec 32 := Scalar.extui v769
  let v771 : BitVec 32 := Scalar.subi v768 v770
  let v772 : BitVec 1 := Scalar.cmpi .ne v766 v771
  let v773 : BitVec 32 := Scalar.remsi v524 c4_i32_528
  let c0_i32_533 : BitVec 32 := 0#32
  let v774 : BitVec 1 := Scalar.cmpi .ne v773 c0_i32_533
  let v775 : BitVec 1 := Scalar.andi v772 v774
  let v761 : BitVec 32 := Scalar.divsi v524 c4_i32_528
  let c1_i32_534 : BitVec 32 := 1#32
  let v776 : BitVec 32 := Scalar.subi v761 c1_i32_534
  let v777 : BitVec 32 := Scalar.select v775 v776 v761
  let v778 : BitVec 32 := Scalar.addi v29 v777
  let c0_i32_536 : BitVec 32 := 0#32
  let v780 : BitVec 1 := Scalar.cmpi .sgt v778 c0_i32_536
  let v781 : BitVec 32 := Scalar.extui v780
  let c0_i32_537 : BitVec 32 := 0#32
  let v782 : BitVec 1 := Scalar.cmpi .slt v778 c0_i32_537
  let v783 : BitVec 32 := Scalar.extui v782
  let v784 : BitVec 32 := Scalar.subi v781 v783
  let c16_i32_535 : BitVec 32 := 16#32
  let c0_i32_538 : BitVec 32 := 0#32
  let v785 : BitVec 1 := Scalar.cmpi .sgt c16_i32_535 c0_i32_538
  let v786 : BitVec 32 := Scalar.extui v785
  let c0_i32_539 : BitVec 32 := 0#32
  let v787 : BitVec 1 := Scalar.cmpi .slt c16_i32_535 c0_i32_539
  let v788 : BitVec 32 := Scalar.extui v787
  let v789 : BitVec 32 := Scalar.subi v786 v788
  let v790 : BitVec 1 := Scalar.cmpi .ne v784 v789
  let v791 : BitVec 32 := Scalar.remsi v778 c16_i32_535
  let c0_i32_540 : BitVec 32 := 0#32
  let v792 : BitVec 1 := Scalar.cmpi .ne v791 c0_i32_540
  let v793 : BitVec 1 := Scalar.andi v790 v792
  let v779 : BitVec 32 := Scalar.divsi v778 c16_i32_535
  let c1_i32_541 : BitVec 32 := 1#32
  let v794 : BitVec 32 := Scalar.subi v779 c1_i32_541
  let v795 : BitVec 32 := Scalar.select v793 v794 v779
  let c16_i32_542 : BitVec 32 := 16#32
  let v796 : BitVec 32 := Scalar.muli v795 c16_i32_542
  let v797 : Index := Scalar.indexCast v796
  ![v797.toNat]
def k0_off17 (i : grid0.Coords) (k0_t1 : Fin k0_t1_loop.trips) (v816 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c8_i32_324 : BitVec 32 := 8#32
  let c0_i32_114 : BitVec 32 := 0#32
  let c1_i32_115 : BitVec 32 := 1#32
  let arg9 : BitVec 32 := Scf.iv c0_i32_114 c1_i32_115 k0_t1
  let v473 : BitVec 32 := Scalar.muli c8_i32_324 arg9
  let c3_i32_325 : BitVec 32 := 3#32
  let v474 : BitVec 32 := Scalar.addi v473 c3_i32_325
  let c4_i32_360 : BitVec 32 := 4#32
  let v524 : BitVec 32 := Scalar.addi v474 c4_i32_360
  let c4_i32_522 : BitVec 32 := 4#32
  let c0_i32_523 : BitVec 32 := 0#32
  let v751 : BitVec 1 := Scalar.cmpi .eq c4_i32_522 c0_i32_523
  let c1_i32_524 : BitVec 32 := 1#32
  let v752 : BitVec 32 := Scalar.select v751 c1_i32_524 c4_i32_522
  let v753 : BitVec 32 := Scalar.remsi v524 v752
  let c0_i32_526 : BitVec 32 := 0#32
  let v755 : BitVec 1 := Scalar.cmpi .slt v753 c0_i32_526
  let c0_i32_527 : BitVec 32 := 0#32
  let v756 : BitVec 1 := Scalar.cmpi .slt v752 c0_i32_527
  let v757 : BitVec 1 := Scalar.xori v755 v756
  let c0_i32_525 : BitVec 32 := 0#32
  let v754 : BitVec 1 := Scalar.cmpi .ne v753 c0_i32_525
  let v758 : BitVec 1 := Scalar.andi v757 v754
  let v759 : BitVec 32 := Scalar.addi v753 v752
  let v760 : BitVec 32 := Scalar.select v758 v759 v753
  let c56_i32_551 : BitVec 32 := 56#32
  let v817 : BitVec 32 := Scalar.muli v760 c56_i32_551
  let c0_i32_556 : BitVec 32 := 0#32
  ![v18.toNat, v816.toNat, v817.toNat, 0]

def k0_chk8 (i : grid0.Coords) (k0_t1 : Fin k0_t1_loop.trips) (v816 : BitVec 32) : Prop :=
  (∀ (k0_h7 : k0_cond7 k0_t1 = 1#1), ∀ a, (k0_off17 i k0_t1 v816) a + S1x1x56x224.size a ≤ S16x96x224x224.size a)
theorem k0_off17_inb : ∀ (i : grid0.Coords) (k0_t1 : Fin k0_t1_loop.trips) (v816 : BitVec 32) (k0_hw8 : k0_chk8 i k0_t1 v816), ∀ (k0_h7 : k0_cond7 k0_t1 = 1#1), ∀ a, (k0_off17 i k0_t1 v816) a + S1x1x56x224.size a ≤ S16x96x224x224.size a := fun i k0_t1 v816 k0_hw8 k0_h7 => k0_hw8 k0_h7

def k0_cond9 (k0_t1 : Fin k0_t1_loop.trips) : BitVec 1 :=
  let c8_i32_363 : BitVec 32 := 8#32
  let c0_i32_114 : BitVec 32 := 0#32
  let c1_i32_115 : BitVec 32 := 1#32
  let arg9 : BitVec 32 := Scf.iv c0_i32_114 c1_i32_115 k0_t1
  let v528 : BitVec 32 := Scalar.muli c8_i32_363 arg9
  let c4_i32_364 : BitVec 32 := 4#32
  let v529 : BitVec 32 := Scalar.addi v528 c4_i32_364
  let c4_i32_399 : BitVec 32 := 4#32
  let v579 : BitVec 32 := Scalar.addi v529 c4_i32_399
  let c192_i32_400 : BitVec 32 := 192#32
  let v580 : BitVec 1 := Scalar.cmpi .slt v579 c192_i32_400
  let v581 : BitVec 32 := Scalar.extui v580
  let c0_i32_401 : BitVec 32 := 0#32
  let v582 : BitVec 1 := Scalar.cmpi .ne v581 c0_i32_401
  v582

def k0_off18 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c8_i32_363 : BitVec 32 := 8#32
  let c0_i32_114 : BitVec 32 := 0#32
  let c1_i32_115 : BitVec 32 := 1#32
  let arg9 : BitVec 32 := Scf.iv c0_i32_114 c1_i32_115 k0_t1
  let v528 : BitVec 32 := Scalar.muli c8_i32_363 arg9
  let c4_i32_364 : BitVec 32 := 4#32
  let v529 : BitVec 32 := Scalar.addi v528 c4_i32_364
  let c4_i32_399 : BitVec 32 := 4#32
  let v579 : BitVec 32 := Scalar.addi v529 c4_i32_399
  let c0_i32_529 : BitVec 32 := 0#32
  let v762 : BitVec 1 := Scalar.cmpi .sgt v579 c0_i32_529
  let v763 : BitVec 32 := Scalar.extui v762
  let c0_i32_530 : BitVec 32 := 0#32
  let v764 : BitVec 1 := Scalar.cmpi .slt v579 c0_i32_530
  let v765 : BitVec 32 := Scalar.extui v764
  let v766 : BitVec 32 := Scalar.subi v763 v765
  let c4_i32_528 : BitVec 32 := 4#32
  let c0_i32_531 : BitVec 32 := 0#32
  let v767 : BitVec 1 := Scalar.cmpi .sgt c4_i32_528 c0_i32_531
  let v768 : BitVec 32 := Scalar.extui v767
  let c0_i32_532 : BitVec 32 := 0#32
  let v769 : BitVec 1 := Scalar.cmpi .slt c4_i32_528 c0_i32_532
  let v770 : BitVec 32 := Scalar.extui v769
  let v771 : BitVec 32 := Scalar.subi v768 v770
  let v772 : BitVec 1 := Scalar.cmpi .ne v766 v771
  let v773 : BitVec 32 := Scalar.remsi v579 c4_i32_528
  let c0_i32_533 : BitVec 32 := 0#32
  let v774 : BitVec 1 := Scalar.cmpi .ne v773 c0_i32_533
  let v775 : BitVec 1 := Scalar.andi v772 v774
  let v761 : BitVec 32 := Scalar.divsi v579 c4_i32_528
  let c1_i32_534 : BitVec 32 := 1#32
  let v776 : BitVec 32 := Scalar.subi v761 c1_i32_534
  let v777 : BitVec 32 := Scalar.select v775 v776 v761
  let v778 : BitVec 32 := Scalar.addi v29 v777
  let c0_i32_536 : BitVec 32 := 0#32
  let v780 : BitVec 1 := Scalar.cmpi .sgt v778 c0_i32_536
  let v781 : BitVec 32 := Scalar.extui v780
  let c0_i32_537 : BitVec 32 := 0#32
  let v782 : BitVec 1 := Scalar.cmpi .slt v778 c0_i32_537
  let v783 : BitVec 32 := Scalar.extui v782
  let v784 : BitVec 32 := Scalar.subi v781 v783
  let c16_i32_535 : BitVec 32 := 16#32
  let c0_i32_538 : BitVec 32 := 0#32
  let v785 : BitVec 1 := Scalar.cmpi .sgt c16_i32_535 c0_i32_538
  let v786 : BitVec 32 := Scalar.extui v785
  let c0_i32_539 : BitVec 32 := 0#32
  let v787 : BitVec 1 := Scalar.cmpi .slt c16_i32_535 c0_i32_539
  let v788 : BitVec 32 := Scalar.extui v787
  let v789 : BitVec 32 := Scalar.subi v786 v788
  let v790 : BitVec 1 := Scalar.cmpi .ne v784 v789
  let v791 : BitVec 32 := Scalar.remsi v778 c16_i32_535
  let c0_i32_540 : BitVec 32 := 0#32
  let v792 : BitVec 1 := Scalar.cmpi .ne v791 c0_i32_540
  let v793 : BitVec 1 := Scalar.andi v790 v792
  let v779 : BitVec 32 := Scalar.divsi v778 c16_i32_535
  let c1_i32_541 : BitVec 32 := 1#32
  let v794 : BitVec 32 := Scalar.subi v779 c1_i32_541
  let v795 : BitVec 32 := Scalar.select v793 v794 v779
  let c16_i32_542 : BitVec 32 := 16#32
  let v796 : BitVec 32 := Scalar.muli v795 c16_i32_542
  let v797 : Index := Scalar.indexCast v796
  ![v797.toNat]
def k0_off19 (i : grid0.Coords) (k0_t1 : Fin k0_t1_loop.trips) (v816 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c8_i32_363 : BitVec 32 := 8#32
  let c0_i32_114 : BitVec 32 := 0#32
  let c1_i32_115 : BitVec 32 := 1#32
  let arg9 : BitVec 32 := Scf.iv c0_i32_114 c1_i32_115 k0_t1
  let v528 : BitVec 32 := Scalar.muli c8_i32_363 arg9
  let c4_i32_364 : BitVec 32 := 4#32
  let v529 : BitVec 32 := Scalar.addi v528 c4_i32_364
  let c4_i32_399 : BitVec 32 := 4#32
  let v579 : BitVec 32 := Scalar.addi v529 c4_i32_399
  let c4_i32_522 : BitVec 32 := 4#32
  let c0_i32_523 : BitVec 32 := 0#32
  let v751 : BitVec 1 := Scalar.cmpi .eq c4_i32_522 c0_i32_523
  let c1_i32_524 : BitVec 32 := 1#32
  let v752 : BitVec 32 := Scalar.select v751 c1_i32_524 c4_i32_522
  let v753 : BitVec 32 := Scalar.remsi v579 v752
  let c0_i32_526 : BitVec 32 := 0#32
  let v755 : BitVec 1 := Scalar.cmpi .slt v753 c0_i32_526
  let c0_i32_527 : BitVec 32 := 0#32
  let v756 : BitVec 1 := Scalar.cmpi .slt v752 c0_i32_527
  let v757 : BitVec 1 := Scalar.xori v755 v756
  let c0_i32_525 : BitVec 32 := 0#32
  let v754 : BitVec 1 := Scalar.cmpi .ne v753 c0_i32_525
  let v758 : BitVec 1 := Scalar.andi v757 v754
  let v759 : BitVec 32 := Scalar.addi v753 v752
  let v760 : BitVec 32 := Scalar.select v758 v759 v753
  let c56_i32_551 : BitVec 32 := 56#32
  let v817 : BitVec 32 := Scalar.muli v760 c56_i32_551
  let c0_i32_556 : BitVec 32 := 0#32
  ![v18.toNat, v816.toNat, v817.toNat, 0]

def k0_chk9 (i : grid0.Coords) (k0_t1 : Fin k0_t1_loop.trips) (v816 : BitVec 32) : Prop :=
  (∀ (k0_h9 : k0_cond9 k0_t1 = 1#1), ∀ a, (k0_off19 i k0_t1 v816) a + S1x1x56x224.size a ≤ S16x96x224x224.size a)
theorem k0_off19_inb : ∀ (i : grid0.Coords) (k0_t1 : Fin k0_t1_loop.trips) (v816 : BitVec 32) (k0_hw9 : k0_chk9 i k0_t1 v816), ∀ (k0_h9 : k0_cond9 k0_t1 = 1#1), ∀ a, (k0_off19 i k0_t1 v816) a + S1x1x56x224.size a ≤ S16x96x224x224.size a := fun i k0_t1 v816 k0_hw9 k0_h9 => k0_hw9 k0_h9

def k0_cond11 (k0_t1 : Fin k0_t1_loop.trips) : BitVec 1 :=
  let c8_i32_402 : BitVec 32 := 8#32
  let c0_i32_114 : BitVec 32 := 0#32
  let c1_i32_115 : BitVec 32 := 1#32
  let arg9 : BitVec 32 := Scf.iv c0_i32_114 c1_i32_115 k0_t1
  let v583 : BitVec 32 := Scalar.muli c8_i32_402 arg9
  let c5_i32_403 : BitVec 32 := 5#32
  let v584 : BitVec 32 := Scalar.addi v583 c5_i32_403
  let c4_i32_438 : BitVec 32 := 4#32
  let v634 : BitVec 32 := Scalar.addi v584 c4_i32_438
  let c192_i32_439 : BitVec 32 := 192#32
  let v635 : BitVec 1 := Scalar.cmpi .slt v634 c192_i32_439
  let v636 : BitVec 32 := Scalar.extui v635
  let c0_i32_440 : BitVec 32 := 0#32
  let v637 : BitVec 1 := Scalar.cmpi .ne v636 c0_i32_440
  v637

def k0_off20 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c8_i32_402 : BitVec 32 := 8#32
  let c0_i32_114 : BitVec 32 := 0#32
  let c1_i32_115 : BitVec 32 := 1#32
  let arg9 : BitVec 32 := Scf.iv c0_i32_114 c1_i32_115 k0_t1
  let v583 : BitVec 32 := Scalar.muli c8_i32_402 arg9
  let c5_i32_403 : BitVec 32 := 5#32
  let v584 : BitVec 32 := Scalar.addi v583 c5_i32_403
  let c4_i32_438 : BitVec 32 := 4#32
  let v634 : BitVec 32 := Scalar.addi v584 c4_i32_438
  let c0_i32_529 : BitVec 32 := 0#32
  let v762 : BitVec 1 := Scalar.cmpi .sgt v634 c0_i32_529
  let v763 : BitVec 32 := Scalar.extui v762
  let c0_i32_530 : BitVec 32 := 0#32
  let v764 : BitVec 1 := Scalar.cmpi .slt v634 c0_i32_530
  let v765 : BitVec 32 := Scalar.extui v764
  let v766 : BitVec 32 := Scalar.subi v763 v765
  let c4_i32_528 : BitVec 32 := 4#32
  let c0_i32_531 : BitVec 32 := 0#32
  let v767 : BitVec 1 := Scalar.cmpi .sgt c4_i32_528 c0_i32_531
  let v768 : BitVec 32 := Scalar.extui v767
  let c0_i32_532 : BitVec 32 := 0#32
  let v769 : BitVec 1 := Scalar.cmpi .slt c4_i32_528 c0_i32_532
  let v770 : BitVec 32 := Scalar.extui v769
  let v771 : BitVec 32 := Scalar.subi v768 v770
  let v772 : BitVec 1 := Scalar.cmpi .ne v766 v771
  let v773 : BitVec 32 := Scalar.remsi v634 c4_i32_528
  let c0_i32_533 : BitVec 32 := 0#32
  let v774 : BitVec 1 := Scalar.cmpi .ne v773 c0_i32_533
  let v775 : BitVec 1 := Scalar.andi v772 v774
  let v761 : BitVec 32 := Scalar.divsi v634 c4_i32_528
  let c1_i32_534 : BitVec 32 := 1#32
  let v776 : BitVec 32 := Scalar.subi v761 c1_i32_534
  let v777 : BitVec 32 := Scalar.select v775 v776 v761
  let v778 : BitVec 32 := Scalar.addi v29 v777
  let c0_i32_536 : BitVec 32 := 0#32
  let v780 : BitVec 1 := Scalar.cmpi .sgt v778 c0_i32_536
  let v781 : BitVec 32 := Scalar.extui v780
  let c0_i32_537 : BitVec 32 := 0#32
  let v782 : BitVec 1 := Scalar.cmpi .slt v778 c0_i32_537
  let v783 : BitVec 32 := Scalar.extui v782
  let v784 : BitVec 32 := Scalar.subi v781 v783
  let c16_i32_535 : BitVec 32 := 16#32
  let c0_i32_538 : BitVec 32 := 0#32
  let v785 : BitVec 1 := Scalar.cmpi .sgt c16_i32_535 c0_i32_538
  let v786 : BitVec 32 := Scalar.extui v785
  let c0_i32_539 : BitVec 32 := 0#32
  let v787 : BitVec 1 := Scalar.cmpi .slt c16_i32_535 c0_i32_539
  let v788 : BitVec 32 := Scalar.extui v787
  let v789 : BitVec 32 := Scalar.subi v786 v788
  let v790 : BitVec 1 := Scalar.cmpi .ne v784 v789
  let v791 : BitVec 32 := Scalar.remsi v778 c16_i32_535
  let c0_i32_540 : BitVec 32 := 0#32
  let v792 : BitVec 1 := Scalar.cmpi .ne v791 c0_i32_540
  let v793 : BitVec 1 := Scalar.andi v790 v792
  let v779 : BitVec 32 := Scalar.divsi v778 c16_i32_535
  let c1_i32_541 : BitVec 32 := 1#32
  let v794 : BitVec 32 := Scalar.subi v779 c1_i32_541
  let v795 : BitVec 32 := Scalar.select v793 v794 v779
  let c16_i32_542 : BitVec 32 := 16#32
  let v796 : BitVec 32 := Scalar.muli v795 c16_i32_542
  let v797 : Index := Scalar.indexCast v796
  ![v797.toNat]
def k0_off21 (i : grid0.Coords) (k0_t1 : Fin k0_t1_loop.trips) (v816 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c8_i32_402 : BitVec 32 := 8#32
  let c0_i32_114 : BitVec 32 := 0#32
  let c1_i32_115 : BitVec 32 := 1#32
  let arg9 : BitVec 32 := Scf.iv c0_i32_114 c1_i32_115 k0_t1
  let v583 : BitVec 32 := Scalar.muli c8_i32_402 arg9
  let c5_i32_403 : BitVec 32 := 5#32
  let v584 : BitVec 32 := Scalar.addi v583 c5_i32_403
  let c4_i32_438 : BitVec 32 := 4#32
  let v634 : BitVec 32 := Scalar.addi v584 c4_i32_438
  let c4_i32_522 : BitVec 32 := 4#32
  let c0_i32_523 : BitVec 32 := 0#32
  let v751 : BitVec 1 := Scalar.cmpi .eq c4_i32_522 c0_i32_523
  let c1_i32_524 : BitVec 32 := 1#32
  let v752 : BitVec 32 := Scalar.select v751 c1_i32_524 c4_i32_522
  let v753 : BitVec 32 := Scalar.remsi v634 v752
  let c0_i32_526 : BitVec 32 := 0#32
  let v755 : BitVec 1 := Scalar.cmpi .slt v753 c0_i32_526
  let c0_i32_527 : BitVec 32 := 0#32
  let v756 : BitVec 1 := Scalar.cmpi .slt v752 c0_i32_527
  let v757 : BitVec 1 := Scalar.xori v755 v756
  let c0_i32_525 : BitVec 32 := 0#32
  let v754 : BitVec 1 := Scalar.cmpi .ne v753 c0_i32_525
  let v758 : BitVec 1 := Scalar.andi v757 v754
  let v759 : BitVec 32 := Scalar.addi v753 v752
  let v760 : BitVec 32 := Scalar.select v758 v759 v753
  let c56_i32_551 : BitVec 32 := 56#32
  let v817 : BitVec 32 := Scalar.muli v760 c56_i32_551
  let c0_i32_556 : BitVec 32 := 0#32
  ![v18.toNat, v816.toNat, v817.toNat, 0]

def k0_chk10 (i : grid0.Coords) (k0_t1 : Fin k0_t1_loop.trips) (v816 : BitVec 32) : Prop :=
  (∀ (k0_h11 : k0_cond11 k0_t1 = 1#1), ∀ a, (k0_off21 i k0_t1 v816) a + S1x1x56x224.size a ≤ S16x96x224x224.size a)
theorem k0_off21_inb : ∀ (i : grid0.Coords) (k0_t1 : Fin k0_t1_loop.trips) (v816 : BitVec 32) (k0_hw10 : k0_chk10 i k0_t1 v816), ∀ (k0_h11 : k0_cond11 k0_t1 = 1#1), ∀ a, (k0_off21 i k0_t1 v816) a + S1x1x56x224.size a ≤ S16x96x224x224.size a := fun i k0_t1 v816 k0_hw10 k0_h11 => k0_hw10 k0_h11

def k0_cond13 (k0_t1 : Fin k0_t1_loop.trips) : BitVec 1 :=
  let c8_i32_441 : BitVec 32 := 8#32
  let c0_i32_114 : BitVec 32 := 0#32
  let c1_i32_115 : BitVec 32 := 1#32
  let arg9 : BitVec 32 := Scf.iv c0_i32_114 c1_i32_115 k0_t1
  let v638 : BitVec 32 := Scalar.muli c8_i32_441 arg9
  let c6_i32_442 : BitVec 32 := 6#32
  let v639 : BitVec 32 := Scalar.addi v638 c6_i32_442
  let c4_i32_477 : BitVec 32 := 4#32
  let v689 : BitVec 32 := Scalar.addi v639 c4_i32_477
  let c192_i32_478 : BitVec 32 := 192#32
  let v690 : BitVec 1 := Scalar.cmpi .slt v689 c192_i32_478
  let v691 : BitVec 32 := Scalar.extui v690
  let c0_i32_479 : BitVec 32 := 0#32
  let v692 : BitVec 1 := Scalar.cmpi .ne v691 c0_i32_479
  v692

def k0_off22 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c8_i32_441 : BitVec 32 := 8#32
  let c0_i32_114 : BitVec 32 := 0#32
  let c1_i32_115 : BitVec 32 := 1#32
  let arg9 : BitVec 32 := Scf.iv c0_i32_114 c1_i32_115 k0_t1
  let v638 : BitVec 32 := Scalar.muli c8_i32_441 arg9
  let c6_i32_442 : BitVec 32 := 6#32
  let v639 : BitVec 32 := Scalar.addi v638 c6_i32_442
  let c4_i32_477 : BitVec 32 := 4#32
  let v689 : BitVec 32 := Scalar.addi v639 c4_i32_477
  let c0_i32_529 : BitVec 32 := 0#32
  let v762 : BitVec 1 := Scalar.cmpi .sgt v689 c0_i32_529
  let v763 : BitVec 32 := Scalar.extui v762
  let c0_i32_530 : BitVec 32 := 0#32
  let v764 : BitVec 1 := Scalar.cmpi .slt v689 c0_i32_530
  let v765 : BitVec 32 := Scalar.extui v764
  let v766 : BitVec 32 := Scalar.subi v763 v765
  let c4_i32_528 : BitVec 32 := 4#32
  let c0_i32_531 : BitVec 32 := 0#32
  let v767 : BitVec 1 := Scalar.cmpi .sgt c4_i32_528 c0_i32_531
  let v768 : BitVec 32 := Scalar.extui v767
  let c0_i32_532 : BitVec 32 := 0#32
  let v769 : BitVec 1 := Scalar.cmpi .slt c4_i32_528 c0_i32_532
  let v770 : BitVec 32 := Scalar.extui v769
  let v771 : BitVec 32 := Scalar.subi v768 v770
  let v772 : BitVec 1 := Scalar.cmpi .ne v766 v771
  let v773 : BitVec 32 := Scalar.remsi v689 c4_i32_528
  let c0_i32_533 : BitVec 32 := 0#32
  let v774 : BitVec 1 := Scalar.cmpi .ne v773 c0_i32_533
  let v775 : BitVec 1 := Scalar.andi v772 v774
  let v761 : BitVec 32 := Scalar.divsi v689 c4_i32_528
  let c1_i32_534 : BitVec 32 := 1#32
  let v776 : BitVec 32 := Scalar.subi v761 c1_i32_534
  let v777 : BitVec 32 := Scalar.select v775 v776 v761
  let v778 : BitVec 32 := Scalar.addi v29 v777
  let c0_i32_536 : BitVec 32 := 0#32
  let v780 : BitVec 1 := Scalar.cmpi .sgt v778 c0_i32_536
  let v781 : BitVec 32 := Scalar.extui v780
  let c0_i32_537 : BitVec 32 := 0#32
  let v782 : BitVec 1 := Scalar.cmpi .slt v778 c0_i32_537
  let v783 : BitVec 32 := Scalar.extui v782
  let v784 : BitVec 32 := Scalar.subi v781 v783
  let c16_i32_535 : BitVec 32 := 16#32
  let c0_i32_538 : BitVec 32 := 0#32
  let v785 : BitVec 1 := Scalar.cmpi .sgt c16_i32_535 c0_i32_538
  let v786 : BitVec 32 := Scalar.extui v785
  let c0_i32_539 : BitVec 32 := 0#32
  let v787 : BitVec 1 := Scalar.cmpi .slt c16_i32_535 c0_i32_539
  let v788 : BitVec 32 := Scalar.extui v787
  let v789 : BitVec 32 := Scalar.subi v786 v788
  let v790 : BitVec 1 := Scalar.cmpi .ne v784 v789
  let v791 : BitVec 32 := Scalar.remsi v778 c16_i32_535
  let c0_i32_540 : BitVec 32 := 0#32
  let v792 : BitVec 1 := Scalar.cmpi .ne v791 c0_i32_540
  let v793 : BitVec 1 := Scalar.andi v790 v792
  let v779 : BitVec 32 := Scalar.divsi v778 c16_i32_535
  let c1_i32_541 : BitVec 32 := 1#32
  let v794 : BitVec 32 := Scalar.subi v779 c1_i32_541
  let v795 : BitVec 32 := Scalar.select v793 v794 v779
  let c16_i32_542 : BitVec 32 := 16#32
  let v796 : BitVec 32 := Scalar.muli v795 c16_i32_542
  let v797 : Index := Scalar.indexCast v796
  ![v797.toNat]
def k0_off23 (i : grid0.Coords) (k0_t1 : Fin k0_t1_loop.trips) (v816 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c8_i32_441 : BitVec 32 := 8#32
  let c0_i32_114 : BitVec 32 := 0#32
  let c1_i32_115 : BitVec 32 := 1#32
  let arg9 : BitVec 32 := Scf.iv c0_i32_114 c1_i32_115 k0_t1
  let v638 : BitVec 32 := Scalar.muli c8_i32_441 arg9
  let c6_i32_442 : BitVec 32 := 6#32
  let v639 : BitVec 32 := Scalar.addi v638 c6_i32_442
  let c4_i32_477 : BitVec 32 := 4#32
  let v689 : BitVec 32 := Scalar.addi v639 c4_i32_477
  let c4_i32_522 : BitVec 32 := 4#32
  let c0_i32_523 : BitVec 32 := 0#32
  let v751 : BitVec 1 := Scalar.cmpi .eq c4_i32_522 c0_i32_523
  let c1_i32_524 : BitVec 32 := 1#32
  let v752 : BitVec 32 := Scalar.select v751 c1_i32_524 c4_i32_522
  let v753 : BitVec 32 := Scalar.remsi v689 v752
  let c0_i32_526 : BitVec 32 := 0#32
  let v755 : BitVec 1 := Scalar.cmpi .slt v753 c0_i32_526
  let c0_i32_527 : BitVec 32 := 0#32
  let v756 : BitVec 1 := Scalar.cmpi .slt v752 c0_i32_527
  let v757 : BitVec 1 := Scalar.xori v755 v756
  let c0_i32_525 : BitVec 32 := 0#32
  let v754 : BitVec 1 := Scalar.cmpi .ne v753 c0_i32_525
  let v758 : BitVec 1 := Scalar.andi v757 v754
  let v759 : BitVec 32 := Scalar.addi v753 v752
  let v760 : BitVec 32 := Scalar.select v758 v759 v753
  let c56_i32_551 : BitVec 32 := 56#32
  let v817 : BitVec 32 := Scalar.muli v760 c56_i32_551
  let c0_i32_556 : BitVec 32 := 0#32
  ![v18.toNat, v816.toNat, v817.toNat, 0]

def k0_chk11 (i : grid0.Coords) (k0_t1 : Fin k0_t1_loop.trips) (v816 : BitVec 32) : Prop :=
  (∀ (k0_h13 : k0_cond13 k0_t1 = 1#1), ∀ a, (k0_off23 i k0_t1 v816) a + S1x1x56x224.size a ≤ S16x96x224x224.size a)
theorem k0_off23_inb : ∀ (i : grid0.Coords) (k0_t1 : Fin k0_t1_loop.trips) (v816 : BitVec 32) (k0_hw11 : k0_chk11 i k0_t1 v816), ∀ (k0_h13 : k0_cond13 k0_t1 = 1#1), ∀ a, (k0_off23 i k0_t1 v816) a + S1x1x56x224.size a ≤ S16x96x224x224.size a := fun i k0_t1 v816 k0_hw11 k0_h13 => k0_hw11 k0_h13

def k0_cond15 (k0_t1 : Fin k0_t1_loop.trips) : BitVec 1 :=
  let c8_i32_480 : BitVec 32 := 8#32
  let c0_i32_114 : BitVec 32 := 0#32
  let c1_i32_115 : BitVec 32 := 1#32
  let arg9 : BitVec 32 := Scf.iv c0_i32_114 c1_i32_115 k0_t1
  let v693 : BitVec 32 := Scalar.muli c8_i32_480 arg9
  let c7_i32_481 : BitVec 32 := 7#32
  let v694 : BitVec 32 := Scalar.addi v693 c7_i32_481
  let c4_i32_516 : BitVec 32 := 4#32
  let v744 : BitVec 32 := Scalar.addi v694 c4_i32_516
  let c192_i32_517 : BitVec 32 := 192#32
  let v745 : BitVec 1 := Scalar.cmpi .slt v744 c192_i32_517
  let v746 : BitVec 32 := Scalar.extui v745
  let c0_i32_518 : BitVec 32 := 0#32
  let v747 : BitVec 1 := Scalar.cmpi .ne v746 c0_i32_518
  v747

def k0_off24 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c8_i32_480 : BitVec 32 := 8#32
  let c0_i32_114 : BitVec 32 := 0#32
  let c1_i32_115 : BitVec 32 := 1#32
  let arg9 : BitVec 32 := Scf.iv c0_i32_114 c1_i32_115 k0_t1
  let v693 : BitVec 32 := Scalar.muli c8_i32_480 arg9
  let c7_i32_481 : BitVec 32 := 7#32
  let v694 : BitVec 32 := Scalar.addi v693 c7_i32_481
  let c4_i32_516 : BitVec 32 := 4#32
  let v744 : BitVec 32 := Scalar.addi v694 c4_i32_516
  let c0_i32_529 : BitVec 32 := 0#32
  let v762 : BitVec 1 := Scalar.cmpi .sgt v744 c0_i32_529
  let v763 : BitVec 32 := Scalar.extui v762
  let c0_i32_530 : BitVec 32 := 0#32
  let v764 : BitVec 1 := Scalar.cmpi .slt v744 c0_i32_530
  let v765 : BitVec 32 := Scalar.extui v764
  let v766 : BitVec 32 := Scalar.subi v763 v765
  let c4_i32_528 : BitVec 32 := 4#32
  let c0_i32_531 : BitVec 32 := 0#32
  let v767 : BitVec 1 := Scalar.cmpi .sgt c4_i32_528 c0_i32_531
  let v768 : BitVec 32 := Scalar.extui v767
  let c0_i32_532 : BitVec 32 := 0#32
  let v769 : BitVec 1 := Scalar.cmpi .slt c4_i32_528 c0_i32_532
  let v770 : BitVec 32 := Scalar.extui v769
  let v771 : BitVec 32 := Scalar.subi v768 v770
  let v772 : BitVec 1 := Scalar.cmpi .ne v766 v771
  let v773 : BitVec 32 := Scalar.remsi v744 c4_i32_528
  let c0_i32_533 : BitVec 32 := 0#32
  let v774 : BitVec 1 := Scalar.cmpi .ne v773 c0_i32_533
  let v775 : BitVec 1 := Scalar.andi v772 v774
  let v761 : BitVec 32 := Scalar.divsi v744 c4_i32_528
  let c1_i32_534 : BitVec 32 := 1#32
  let v776 : BitVec 32 := Scalar.subi v761 c1_i32_534
  let v777 : BitVec 32 := Scalar.select v775 v776 v761
  let v778 : BitVec 32 := Scalar.addi v29 v777
  let c0_i32_536 : BitVec 32 := 0#32
  let v780 : BitVec 1 := Scalar.cmpi .sgt v778 c0_i32_536
  let v781 : BitVec 32 := Scalar.extui v780
  let c0_i32_537 : BitVec 32 := 0#32
  let v782 : BitVec 1 := Scalar.cmpi .slt v778 c0_i32_537
  let v783 : BitVec 32 := Scalar.extui v782
  let v784 : BitVec 32 := Scalar.subi v781 v783
  let c16_i32_535 : BitVec 32 := 16#32
  let c0_i32_538 : BitVec 32 := 0#32
  let v785 : BitVec 1 := Scalar.cmpi .sgt c16_i32_535 c0_i32_538
  let v786 : BitVec 32 := Scalar.extui v785
  let c0_i32_539 : BitVec 32 := 0#32
  let v787 : BitVec 1 := Scalar.cmpi .slt c16_i32_535 c0_i32_539
  let v788 : BitVec 32 := Scalar.extui v787
  let v789 : BitVec 32 := Scalar.subi v786 v788
  let v790 : BitVec 1 := Scalar.cmpi .ne v784 v789
  let v791 : BitVec 32 := Scalar.remsi v778 c16_i32_535
  let c0_i32_540 : BitVec 32 := 0#32
  let v792 : BitVec 1 := Scalar.cmpi .ne v791 c0_i32_540
  let v793 : BitVec 1 := Scalar.andi v790 v792
  let v779 : BitVec 32 := Scalar.divsi v778 c16_i32_535
  let c1_i32_541 : BitVec 32 := 1#32
  let v794 : BitVec 32 := Scalar.subi v779 c1_i32_541
  let v795 : BitVec 32 := Scalar.select v793 v794 v779
  let c16_i32_542 : BitVec 32 := 16#32
  let v796 : BitVec 32 := Scalar.muli v795 c16_i32_542
  let v797 : Index := Scalar.indexCast v796
  ![v797.toNat]
def k0_off25 (i : grid0.Coords) (k0_t1 : Fin k0_t1_loop.trips) (v816 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c8_i32_480 : BitVec 32 := 8#32
  let c0_i32_114 : BitVec 32 := 0#32
  let c1_i32_115 : BitVec 32 := 1#32
  let arg9 : BitVec 32 := Scf.iv c0_i32_114 c1_i32_115 k0_t1
  let v693 : BitVec 32 := Scalar.muli c8_i32_480 arg9
  let c7_i32_481 : BitVec 32 := 7#32
  let v694 : BitVec 32 := Scalar.addi v693 c7_i32_481
  let c4_i32_516 : BitVec 32 := 4#32
  let v744 : BitVec 32 := Scalar.addi v694 c4_i32_516
  let c4_i32_522 : BitVec 32 := 4#32
  let c0_i32_523 : BitVec 32 := 0#32
  let v751 : BitVec 1 := Scalar.cmpi .eq c4_i32_522 c0_i32_523
  let c1_i32_524 : BitVec 32 := 1#32
  let v752 : BitVec 32 := Scalar.select v751 c1_i32_524 c4_i32_522
  let v753 : BitVec 32 := Scalar.remsi v744 v752
  let c0_i32_526 : BitVec 32 := 0#32
  let v755 : BitVec 1 := Scalar.cmpi .slt v753 c0_i32_526
  let c0_i32_527 : BitVec 32 := 0#32
  let v756 : BitVec 1 := Scalar.cmpi .slt v752 c0_i32_527
  let v757 : BitVec 1 := Scalar.xori v755 v756
  let c0_i32_525 : BitVec 32 := 0#32
  let v754 : BitVec 1 := Scalar.cmpi .ne v753 c0_i32_525
  let v758 : BitVec 1 := Scalar.andi v757 v754
  let v759 : BitVec 32 := Scalar.addi v753 v752
  let v760 : BitVec 32 := Scalar.select v758 v759 v753
  let c56_i32_551 : BitVec 32 := 56#32
  let v817 : BitVec 32 := Scalar.muli v760 c56_i32_551
  let c0_i32_556 : BitVec 32 := 0#32
  ![v18.toNat, v816.toNat, v817.toNat, 0]

def k0_chk12 (i : grid0.Coords) (k0_t1 : Fin k0_t1_loop.trips) (v816 : BitVec 32) : Prop :=
  (∀ (k0_h15 : k0_cond15 k0_t1 = 1#1), ∀ a, (k0_off25 i k0_t1 v816) a + S1x1x56x224.size a ≤ S16x96x224x224.size a)
theorem k0_off25_inb : ∀ (i : grid0.Coords) (k0_t1 : Fin k0_t1_loop.trips) (v816 : BitVec 32) (k0_hw12 : k0_chk12 i k0_t1 v816), ∀ (k0_h15 : k0_cond15 k0_t1 = 1#1), ∀ a, (k0_off25 i k0_t1 v816) a + S1x1x56x224.size a ≤ S16x96x224x224.size a := fun i k0_t1 v816 k0_hw12 k0_h15 => k0_hw12 k0_h15

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x96x224x224 : Shape := ⟨4, ![16, 96, 224, 224]⟩
abbrev S96 : Shape := ⟨1, ![96]⟩
abbrev S_ : Shape := ⟨0, ![]⟩
abbrev S96x1 : Shape := ⟨2, ![96, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S16x96x224x224, .f32⟩
  | .hbm, ⟨1, _⟩ => ⟨S96, .i32⟩
  | .hbm, ⟨2, _⟩ => ⟨S_, .i32⟩
  | .hbm, ⟨3, _⟩ => ⟨S96, .i32⟩
  | .hbm, ⟨4, _⟩ => ⟨S96, .i1⟩
  | .hbm, ⟨5, _⟩ => ⟨S_, .i32⟩
  | .hbm, ⟨6, _⟩ => ⟨S96, .i32⟩
  | .hbm, ⟨7, _⟩ => ⟨S96, .i32⟩
  | .hbm, ⟨8, _⟩ => ⟨S96, .i32⟩
  | .hbm, ⟨9, _⟩ => ⟨S96x1, .i32⟩
  | .hbm, ⟨10, _⟩ => ⟨S1, .i32⟩
  | .hbm, ⟨11, _⟩ => ⟨S_, .i32⟩
  | .hbm, ⟨12, _⟩ => ⟨S96x1, .i32⟩
  | .hbm, ⟨13, _⟩ => ⟨S96x1, .i1⟩
  | .hbm, ⟨14, _⟩ => ⟨S1x1, .i32⟩
  | .hbm, ⟨15, _⟩ => ⟨S96x1, .i32⟩
  | .hbm, ⟨16, _⟩ => ⟨S96x1, .i1⟩
  | .hbm, ⟨17, _⟩ => ⟨S96x1, .i1⟩
  | .hbm, ⟨18, _⟩ => ⟨S_, .i1⟩
  | .hbm, ⟨19, _⟩ => ⟨S96, .i1⟩
  | .hbm, ⟨20, _⟩ => ⟨S16x96x224x224, .f32⟩
  | .hbm, ⟨21, _⟩ => ⟨S16x96x224x224, .i1⟩
  | .hbm, ⟨22, _⟩ => ⟨S_, .f32⟩
  | .hbm, ⟨23, _⟩ => ⟨S16x96x224x224, .f32⟩
  | .hbm, ⟨24, _⟩ => ⟨S16x96x224x224, .f32⟩
  | .hbm, ⟨25, _⟩ => ⟨S_, .f32⟩
  | _, _ => ⟨S16x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩

abbrev nD : Nat := 1
abbrev τ : Topo := Topo.v7x

variable {F : FTy → Type} [FloatOps F]
-- ==== Proof.Base.lean ====
/-
  The channel permutation kernel: the names every later module uses.

  The kernel runs on the 2 × 16 vector subcores ("tiles") of the chip's two SparseCores. Tile `L` (core `L 0`, subcore
  `L 1`) owns batch entry `L 1` and the channels `48 · L 0 … 48 · L 0 + 47` of the result. It moves 192 chunks of 56 rows:
  chunk `j` is the quarter `j % 4` of the plane of channel `48 · L 0 + j / 4`, and its source is the same quarter of the
  plane of channel `perm` of that. A ring of eight slots holds the chunks on their way.

  This module fixes the arrays, the slots, the chunks and what each of them is to hold.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ValueLayout
public import Idealize.ShloMosaic.Lib.Tactic
public import proofs.«01_k».proof.Proof.Gen.KernelIdeal
public import proofs.«01_k».proof.Proof.Gen.KernelIdeal.Skeleton

@[expose] public section

noncomputable section

namespace Cert.Proof.Chan

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
/-- Sixteen tiles on each core. -/
theorem nSub_zero : (K (F := F)).nSub 0 = 16 := rfl
/-- Two cores. -/
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake cells of the launch are distinct and of the right kind. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev zLoc (d : Dev nD) : Loc nD τ sig := (SparseCore.T d).loc main_arg0
abbrev pLoc (d : Dev nD) : Loc nD τ sig := (SparseCore.T d).loc main_arg1
abbrev oLoc (d : Dev nD) : Loc nD τ sig := (SparseCore.T d).loc main_v0
abbrev kLoc (d : Dev nD) : Loc nD τ sig := (SparseCore.T d).loc main_cst

abbrev zV : Memref sig Kind.scVector Space.hbm S16x96x224x224 EltTy.f32 := Memref.whole main_arg0_scv
abbrev pV : Memref sig Kind.scVector Space.hbm S96 EltTy.i32 := Memref.whole main_arg1_scv
abbrev oV : Memref sig Kind.scVector Space.hbm S16x96x224x224 EltTy.f32 := Memref.whole main_v0_scv
abbrev lV : Memref sig Kind.scVector Space.vmem S96 EltTy.i32 := Memref.whole cc0_scratch0
abbrev bV : Memref sig Kind.scVector Space.vmem S8x56x224 EltTy.f32 := Memref.whole cc0_scratch1

abbrev cV (L : grid0.Coords) : Fin τ.nSC := (L 0).castLE hcore0
abbrev jV (L : grid0.Coords) : Fin τ.nSub := (L 1).castLE hsub0
/-- The thread of tile `L`. -/
abbrev VT (d : Dev nD) (L : grid0.Coords) : Thread nD τ := V d (cV L) (jV L)

/-- Slot `k` of the ring: row `k` of the buffer, read as a `56 × 224` block. -/
abbrev slot (k : ℕ) (h : ∀ a, (![k, 0, 0] : Fin 3 → Nat) a + S1x56x224.size a ≤ S8x56x224.size a) :
    Memref sig Kind.scVector Space.vmem S56x224 EltTy.f32 :=
  (bV.slice (Rect.unit (s := S8x56x224) ![k, 0, 0] S1x56x224.size h) (fun _ => rfl)).squeeze S56x224 squeezes_S1x56x224_S56x224

/-- The `56 × 224` block of a `16 × 96 × 224 × 224` array at offset `off`. -/
abbrev win (A : Memref sig Kind.scVector Space.hbm S16x96x224x224 EltTy.f32) (off : Fin 4 → Nat)
    (h : ∀ a, off a + S1x1x56x224.size a ≤ S16x96x224x224.size a) : Memref sig Kind.scVector Space.hbm S56x224 EltTy.f32 :=
  (A.slice (Rect.unit (s := S16x96x224x224) off S1x1x56x224.size h) (fun _ => rfl)).squeeze S56x224 squeezes_S1x1x56x224_S56x224

/-! ## What the arrays are to hold -/

variable (m : (ℓ : Loc nD τ sig) → Buf (Elt F) ℓ)

/-- The channel the permutation names for channel `c`. -/
def chanOf (d : Dev nD) (c : Fin 96) : Fin 96 := Fin.ofNat 96 (BitVec.toNat (m (pLoc d) (ix1 c)))

/-- The result: the plane of channel `c` of batch entry `b` is the argument's plane of channel `perm c`. -/
def outVal (d : Dev nD) : Buf (Elt F) (oLoc d) := fun y : S16x96x224x224.Idx => m (zLoc d) (ix4 (y 0) (chanOf m d (y 1)) (y 2) (y 3))

/-- What tile `L`'s chunk `j` is: a block of the result. -/
def chunkVal (d : Dev nD) (L : grid0.Coords) (j : ℕ) : Vec F S56x224 .f32 := fun x =>
  outVal m d (ix4 (Fin.ofNat 16 (L 1).val) (Fin.ofNat 96 (48 * (L 0).val + j / 4)) (Fin.ofNat 224 (56 * (j % 4) + (x 0).val)) (x 1))

/-- What a slot that carries chunk `j` holds (every row of the buffer alike: only the slot's own row is ever read). -/
def slotVal (d : Dev nD) (L : grid0.Coords) (j : ℕ) : Buf (Elt F) ((VT d L).loc cc0_scratch1) := fun y : S8x56x224.Idx =>
  chunkVal m d L j (ix2 (y 1) (y 2))

/-- The permutation names channels: every entry is below 96. The certificate's precondition says so. -/
def PreOK : Prop := ∀ (d : Dev nD) (j : S96.Idx), BitVec.toNat (m (pLoc d) j) < 96

end Cert.Proof.Chan
-- ==== Proof.Values.lean ====
/-
  The values: which word of the permutation a lane selection yields, where each copy reads and writes, and what a slot or
  a chunk of the result holds once a payload has been written over it.
-/
module

public import proofs.«01_k».proof.Proof.Base
public import Idealize.ShloMosaic.Lib.ViewIndex

@[expose] public section

noncomputable section

namespace Cert.Proof.Chan

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## Contents under a view -/

/-- A view's elements held at two contents the view reads alike are one assertion. -/
theorem pts_of_read {c : Thread nD τ} {sp : Space} {s : Shape} {e : EltTy} (v : View sig c.2.kind sp s e) {q : PosShare TreeShare}
    {f g : Buf (Elt F) (v.loc c)} (h : v.read (Elt F) f = v.read (Elt F) g) :
    (v.loc c ↦[v.set]{q} f : sProp (MT nD τ sig (HIx 1) (Elt F) ℕ UU ℕ)) = v.loc c ↦[v.set]{q} g := by
  refine pointsTo_congr fun i hi => ?_
  obtain ⟨x, -, rfl⟩ := Finset.mem_map.mp hi
  exact View.eq_of_read_eq (congrFun h x)

/-- A view's elements after one payload over the whole view, where the payload is what the view reads of `g`. -/
theorem pts_written {c : Thread nD τ} {sp : Space} {s : Shape} {e : EltTy} (v : View sig c.2.kind sp s e) {q : PosShare TreeShare}
    {f g : Buf (Elt F) (v.loc c)} {pay : s.Idx → Elt F e} (h : pay = v.read (Elt F) g) :
    (v.loc c ↦[v.set]{q} v.writes (Elt F) f [⟨Rect.whole s, pay⟩] : sProp (MT nD τ sig (HIx 1) (Elt F) ℕ UU ℕ)) = v.loc c ↦[v.set]{q} g :=
  pts_of_read v (by rw [View.read_writes_whole, h])

variable (m : (ℓ : Loc nD τ sig) → Buf (Elt F) ℓ)

/-- Every index of a `56 × 224` block is a pair. -/
theorem exists_ix2 (x : S56x224.Idx) : ∃ (a : Fin 56) (b : Fin 224), x = ix2 a b := ⟨x 0, x 1, eq_ix2 x⟩

/-- A slot that carries chunk `j` reads as the chunk. -/
theorem slot_read (d : Dev nD) (L : grid0.Coords) (j k : ℕ)
    (h : ∀ a, (![k, 0, 0] : Fin 3 → Nat) a + S1x56x224.size a ≤ S8x56x224.size a) :
    (slot k h).view.read (Elt F) (slotVal m d L j) = chunkVal m d L j := by
  funext x
  obtain ⟨a, b, rfl⟩ := exists_ix2 x
  show slotVal m d L j ((Rect.unit (s := S8x56x224) ![k, 0, 0] S1x56x224.size h).emb (Shape.reshapeEquiv _ (ix2 a b))) = _
  rw [reshapeEquiv_ix2_1ab]
  show chunkVal m d L j (ix2 _ _) = _
  congr 1
  funext i
  match i with
  | ⟨0, _⟩ => exact Fin.ext (show 0 + 1 * a.val = a.val by omega)
  | ⟨1, _⟩ => exact Fin.ext (show 0 + 1 * b.val = b.val by omega)

/-- A block of a four-axis array, read at a pair. -/
theorem win_read {A : Memref sig Kind.scVector Space.hbm S16x96x224x224 EltTy.f32} (off : Fin 4 → Nat)
    (h : ∀ a, off a + S1x1x56x224.size a ≤ S16x96x224x224.size a) (f : A.view.ty.Contents (Elt F)) (a : Fin 56) (b : Fin 224) :
    (win A off h).view.read (Elt F) f (ix2 a b) = A.view.read (Elt F) f
      (ix4 (⟨off 0, by have := h 0; change off 0 + 1 ≤ 16 at this; omega⟩ : Fin 16) (⟨off 1, by have := h 1; change off 1 + 1 ≤ 96 at this; omega⟩ : Fin 96)
        (⟨off 2 + a.val, by have := h 2; change off 2 + 56 ≤ 224 at this; omega⟩ : Fin 224)
        (⟨off 3 + b.val, by have := h 3; change off 3 + 224 ≤ 224 at this; omega⟩ : Fin 224)) := by
  show A.view.read (Elt F) f ((Rect.unit (s := S16x96x224x224) off S1x1x56x224.size h).emb (Shape.reshapeEquiv _ (ix2 a b))) = _
  rw [reshapeEquiv_ix2_11ab]
  congr 1
  funext i
  match i with
  | ⟨0, _⟩ => exact Fin.ext (show off 0 + 1 * 0 = off 0 by omega)
  | ⟨1, _⟩ => exact Fin.ext (show off 1 + 1 * 0 = off 1 by omega)
  | ⟨2, _⟩ => exact Fin.ext (show off 2 + 1 * a.val = off 2 + a.val by omega)
  | ⟨3, _⟩ => exact Fin.ext (show off 3 + 1 * b.val = off 3 + b.val by omega)

/-- Where tile `L`'s chunk `j` lies in the result. -/
abbrev chunkOff (L : grid0.Coords) (j : ℕ) : Fin 4 → Nat := ![(L 1).val, 48 * (L 0).val + j / 4, 56 * (j % 4), 0]

/-- Where tile `L`'s chunk `j` lies in the argument, its channel's permuted number being `v`. -/
abbrev srcOff (L : grid0.Coords) (j : ℕ) (v : ℕ) : Fin 4 → Nat := ![(L 1).val, v, 56 * (j % 4), 0]

/-- The channel of tile `L`'s chunk `j`. -/
def chan (L : grid0.Coords) (j : Fin 192) : Fin 96 :=
  ⟨48 * (L 0).val + j.val / 4, by have h : (L 0).val < 2 := (L 0).isLt; have := j.isLt; omega⟩

/-- The wanted result, read at chunk `j`, is chunk `j`. -/
theorem out_read (d : Dev nD) (L : grid0.Coords) (j : Fin 192) (off : Fin 4 → Nat) (ho : off = chunkOff L j)
    (h : ∀ a, off a + S1x1x56x224.size a ≤ S16x96x224x224.size a) :
    (win oV off h).view.read (Elt F) (outVal m d) = chunkVal m d L j := by
  subst ho
  funext x
  obtain ⟨a, b, rfl⟩ := exists_ix2 x
  rw [win_read]
  have h0 : (L 0).val < 2 := (L 0).isLt
  have h1 : (L 1).val < 16 := (L 1).isLt
  have hj := j.isLt
  show outVal m d _ = outVal m d _
  congr 1
  funext i
  match i with
  | ⟨0, _⟩ => exact Fin.ext (show (L 1).val = (L 1).val % 16 by omega)
  | ⟨1, _⟩ => exact Fin.ext (show 48 * (L 0).val + j.val / 4 = (48 * (L 0).val + j.val / 4) % 96 by omega)
  | ⟨2, _⟩ => exact Fin.ext (show 56 * (j.val % 4) + a.val = (56 * (j.val % 4) + a.val) % 224 by omega)
  | ⟨3, _⟩ => exact Fin.ext (show 0 + b.val = b.val by omega)

/-- The argument, read where the permutation sends chunk `j`, is chunk `j`. -/
theorem src_read (d : Dev nD) (L : grid0.Coords) (j : Fin 192) (hp : PreOK m) (off : Fin 4 → Nat)
    (ho : off = srcOff L j (BitVec.toNat (m (pLoc d) (ix1 (chan L j)))))
    (h : ∀ a, off a + S1x1x56x224.size a ≤ S16x96x224x224.size a) :
    (win zV off h).view.read (Elt F) (m (zLoc d)) = chunkVal m d L j := by
  subst ho
  funext x
  obtain ⟨a, b, rfl⟩ := exists_ix2 x
  rw [win_read]
  have h0 : (L 0).val < 2 := (L 0).isLt
  have h1 : (L 1).val < 16 := (L 1).isLt
  have hj := j.isLt
  have hc : (Fin.ofNat 96 (48 * (L 0).val + j.val / 4) : Fin 96) = chan L j :=
    Fin.ext (show (48 * (L 0).val + j.val / 4) % 96 = 48 * (L 0).val + j.val / 4 by omega)
  have hv := hp d (ix1 (chan L j))
  show m (zLoc d) _ = m (zLoc d) _
  congr 1
  funext i
  match i with
  | ⟨0, _⟩ => exact Fin.ext (show (L 1).val = (L 1).val % 16 by omega)
  | ⟨1, _⟩ =>
    refine Fin.ext (show BitVec.toNat (m (pLoc d) (ix1 (chan L j))) = (chanOf m d (Fin.ofNat 96 (48 * (L 0).val + j.val / 4))).val from ?_)
    rw [hc]
    exact (Nat.mod_eq_of_lt hv).symm
  | ⟨2, _⟩ => exact Fin.ext (show 56 * (j.val % 4) + a.val = (56 * (j.val % 4) + a.val) % 224 by omega)
  | ⟨3, _⟩ => exact Fin.ext (show 0 + b.val = b.val by omega)

/-! ## The lane selection -/

/-- The sum along sixteen words of which all but one are zero is that word. -/
theorem sum_one_lane (f w : Fin 16 → BitVec 32) (r : Fin 16) (hf : ∀ k, f k = if k = r then w k else 0#32) :
    ((List.finRange 16).filter fun k => decide (0 < k.val ∧ k.val ≤ 15)).foldl (fun s k => s + f k) (f 0) = w r := by
  rw [show ((List.finRange 16).filter fun k => decide (0 < k.val ∧ k.val ≤ 15)) = [1, 2, 3, 4, 5, 6, 7, 8, 9, 10, 11, 12, 13, 14, 15] by decide]
  simp only [hf]
  fin_cases r <;> simp [List.foldl]

/-- The last lane of a running sum over sixteen lanes, as a fold. -/
theorem scan_last (v : IVec S16 32) :
    extractAt ![15] (scan .sum v) inpos_S16_p15 = ((List.finRange 16).filter fun k => decide (0 < k.val ∧ k.val ≤ 15)).foldl
      (fun s k => s + v (Shape.ofLane (d := ![16]) k)) (v (Shape.ofLane (d := ![16]) (0 : Fin 16))) := rfl

/-- The last lane of the running sum of a row masked to lane `r` is the row's word there. -/
theorem pick_lane (u : BitVec 32) (r : Fin 16) (hu : u = BitVec.ofNat 32 r.val) (w : Vec F S16 .i32) :
    extractAt ![15] (scan .sum (select (cmpi .eq (iota .scVector S16 32 [0] iota_S16_d0_w32_scVector) (broadcast S16 u)) w (broadcast S16 0#32) :
      IVec S16 32)) inpos_S16_p15 = w (Shape.ofLane (d := ![16]) r) := by
  subst hu
  have hs : ∀ k : Fin 16, (select (cmpi .eq (iota .scVector S16 32 [0] iota_S16_d0_w32_scVector) (broadcast S16 (BitVec.ofNat 32 r.val))) w
      (broadcast S16 0#32) : IVec S16 32) (Shape.ofLane (d := ![16]) k) = if k = r then w (Shape.ofLane (d := ![16]) k) else 0#32 := by
    intro k
    have hm : cmpi .eq (iota .scVector S16 32 [0] iota_S16_d0_w32_scVector) (broadcast S16 (BitVec.ofNat 32 r.val)) (Shape.ofLane (d := ![16]) k)
        = if k = r then 1#1 else 0#1 := by revert k r; decide +kernel
    show (if cmpi .eq (iota .scVector S16 32 [0] iota_S16_d0_w32_scVector) (broadcast S16 (BitVec.ofNat 32 r.val)) (Shape.ofLane (d := ![16]) k) = 1#1
      then w (Shape.ofLane (d := ![16]) k) else 0#32) = _
    rw [hm]
    by_cases e : k = r <;> simp [e]
  exact (scan_last _).trans (sum_one_lane (fun k => (select (cmpi .eq (iota .scVector S16 32 [0] iota_S16_d0_w32_scVector)
    (broadcast S16 (BitVec.ofNat 32 r.val))) w (broadcast S16 0#32) : IVec S16 32) (Shape.ofLane (d := ![16]) k))
    (fun k => w (Shape.ofLane (d := ![16]) k)) r hs)

/-- The permutation's words as a tile's own copy holds them. -/
def permBuf (d : Dev nD) (L : grid0.Coords) : Buf (Elt F) ((lV).view.loc (VT d L)) := fun x => m (pLoc d) x

/-- The lane selection over the sixteen words that hold channel `c`'s entry, at its lane, is the permutation's word for `c`. -/
theorem perm_at (d : Dev nD) (L : grid0.Coords) (c : Fin 96) (u : BitVec 32) (hu : u = BitVec.ofNat 32 (c.val % 16)) (off : Fin 1 → Nat)
    (ho : off = ![16 * (c.val / 16)]) (h : ∀ a, off a + S16.size a ≤ S96.size a) :
    extractAt ![15] (scan .sum (select (cmpi .eq (iota .scVector S16 32 [0] iota_S16_d0_w32_scVector) (broadcast S16 u))
      (View.readAt (Elt F) (lV).view (Rect.unit (s := S96) off S16.size h).toLoadRect (permBuf m d L) : Vec F S16 .i32) (broadcast S16 0#32) :
      IVec S16 32)) inpos_S16_p15 = m (pLoc d) (ix1 c) := by
  rw [pick_lane u ⟨c.val % 16, Nat.mod_lt _ (by decide)⟩ hu]
  subst ho
  show m (pLoc d) ((Rect.unit (s := S96) _ S16.size h).emb _) = _
  congr 1
  funext i
  match i with
  | ⟨0, _⟩ => exact Fin.ext (show 16 * (c.val / 16) + 1 * (c.val % 16) = c.val by omega)

end Cert.Proof.Chan
-- ==== Proof.Words.lean ====
/-
  The kernel's words in closed form: the offsets of the loads, the sources and the chunks, the conditions of a trip, and
  the side conditions the lane selections owe.
-/
module

public import proofs.«01_k».proof.Proof.Values

@[expose] public section

noncomputable section

namespace Cert.Proof.Chan

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

/-! ## The loop's words -/

/-- The loop makes 24 trips. -/
theorem trips_eq : k0_t1_loop.trips = 24 := by decide

/-- Chunk `r` of trip `t` begins at this offset of the result. -/
theorem off9_eq : ∀ (L : grid0.Coords) (t : Fin k0_t1_loop.trips) (r : Fin 8), k0_off9 L t (BitVec.ofNat 32 r.val) = chunkOff L (8 * t.val + r.val) := by
  decide +kernel

/-- Step `r` of trip `t` has seen chunk four before: the condition under which a slot's earlier copy out is waited for. -/
abbrev laterWord (t : Fin k0_t1_loop.trips) (r : BitVec 32) : BitVec 1 :=
  Scalar.cmpi .ne (Scalar.extui (Scalar.cmpi .sge (Scalar.addi (Scalar.muli 8#32 (Scf.iv 0#32 1#32 t.val)) r) 4#32)) 0#32

/-- After the first trip every step waits for a slot's earlier copy out. -/
theorem later_pos : ∀ (t : Fin k0_t1_loop.trips) (r : Fin 8), 0 < t.val → laterWord t (BitVec.ofNat 32 r.val) = 1#1 := by decide +kernel
/-- The later half of every trip does. -/
theorem later_high : ∀ (t : Fin k0_t1_loop.trips) (r : Fin 8), 4 ≤ r.val → laterWord t (BitVec.ofNat 32 r.val) = 1#1 := by decide +kernel
/-- The first half of the first trip does not. -/
theorem later_zero : ∀ (t : Fin k0_t1_loop.trips) (r : Fin 8), t.val = 0 → r.val < 4 → ¬ laterWord t (BitVec.ofNat 32 r.val) = 1#1 := by decide +kernel

/-- The first channel of tile `L`, as the kernel computes it. -/
abbrev baseWord (L : grid0.Coords) : BitVec 32 := BitVec.ofNat 32 (48 * (L 0).val)

/-- The number of the chunk that step `r` of trip `t` fetches, as a word. -/
abbrev nextWord (t : Fin k0_t1_loop.trips) (r : BitVec 32) : BitVec 32 :=
  Scalar.addi (Scalar.addi (Scalar.muli 8#32 (Scf.iv 0#32 1#32 t.val)) r) 4#32

/-- The lane of a row at which the selection looks for the channel of chunk `n`, `v` being the tile's first channel. -/
abbrev laneWord (v n : BitVec 32) : BitVec 32 :=
  let c := Scalar.addi v (Scalar.select 0#1 (Scalar.subi (Scalar.divsi n 4#32) 1#32) (Scalar.divsi n 4#32))
  let r := Scalar.remsi c 16#32
  Scalar.select (Scalar.andi (Scalar.xori (Scalar.cmpi .slt r 0#32) (Scalar.cmpi .slt 16#32 0#32)) (Scalar.cmpi .ne r 0#32)) (Scalar.addi r 16#32) r

/-- That lane is the channel modulo sixteen. -/
theorem lane_base : ∀ (L : grid0.Coords) (t : Fin k0_t1_loop.trips) (r : Fin 8),
    laneWord (baseWord L) (nextWord t (BitVec.ofNat 32 r.val)) = BitVec.ofNat 32 ((48 * (L 0).val + (8 * t.val + r.val + 4) / 4) % 16) := by
  decide +kernel

/-- A source block at a channel lies in the argument. -/
theorem src_inb (L : grid0.Coords) (j v : ℕ) (hv : v < 96) : ∀ a, srcOff L j v a + S1x1x56x224.size a ≤ S16x96x224x224.size a := by
  have h1 : (L 1).val < 16 := (L 1).isLt
  intro a
  match a with
  | ⟨0, _⟩ => exact (show (L 1).val + 1 ≤ 16 by omega)
  | ⟨1, _⟩ => exact (show v + 1 ≤ 96 by omega)
  | ⟨2, _⟩ => exact (show 56 * (j % 4) + 56 ≤ 224 by omega)
  | ⟨3, _⟩ => exact (show 0 + 224 ≤ 224 by omega)

/-- Step 0's load of the permutation's words. -/
theorem off10_eq : ∀ (L : grid0.Coords) (t : Fin k0_t1_loop.trips), k0_off10 L t = ![16 * ((48 * (L 0).val + (8 * t.val + 4) / 4) / 16)] := by
  decide +kernel
/-- Step 0's source in the argument. -/
theorem off11_eq (L : grid0.Coords) (t : Fin k0_t1_loop.trips) (v : BitVec 32) : k0_off11 L t v = srcOff L (8 * t.val + 4) v.toNat :=
  (show k0_off11 L t v = ![k0_off11 L t 0#32 0, v.toNat, k0_off11 L t 0#32 2, 0] from rfl).trans (by
    rw [show k0_off11 L t 0#32 = srcOff L (8 * t.val + 4) 0 by revert L t; decide +kernel]; rfl)
/-- Step 0's side condition holds of a channel. -/
theorem chk5_of (L : grid0.Coords) (t : Fin k0_t1_loop.trips) (v : BitVec 32) (hv : v.toNat < 96) : k0_chk5 L t v := fun _ => by
  rw [off11_eq]; exact src_inb L _ _ hv
/-- Step 0 fetches on every trip. -/
theorem cond1_pos : ∀ t : Fin k0_t1_loop.trips, k0_cond1 t = 1#1 := by decide +kernel

/-- Step 1's load of the permutation's words. -/
theorem off12_eq : ∀ (L : grid0.Coords) (t : Fin k0_t1_loop.trips), k0_off12 L t = ![16 * ((48 * (L 0).val + (8 * t.val + 5) / 4) / 16)] := by
  decide +kernel
/-- Step 1's source in the argument. -/
theorem off13_eq (L : grid0.Coords) (t : Fin k0_t1_loop.trips) (v : BitVec 32) : k0_off13 L t v = srcOff L (8 * t.val + 5) v.toNat :=
  (show k0_off13 L t v = ![k0_off13 L t 0#32 0, v.toNat, k0_off13 L t 0#32 2, 0] from rfl).trans (by
    rw [show k0_off13 L t 0#32 = srcOff L (8 * t.val + 5) 0 by revert L t; decide +kernel]; rfl)
/-- Step 1's side condition holds of a channel. -/
theorem chk6_of (L : grid0.Coords) (t : Fin k0_t1_loop.trips) (v : BitVec 32) (hv : v.toNat < 96) : k0_chk6 L t v := fun _ => by
  rw [off13_eq]; exact src_inb L _ _ hv
/-- Step 1 fetches on every trip. -/
theorem cond3_pos : ∀ t : Fin k0_t1_loop.trips, k0_cond3 t = 1#1 := by decide +kernel

/-- Step 2's load of the permutation's words. -/
theorem off14_eq : ∀ (L : grid0.Coords) (t : Fin k0_t1_loop.trips), k0_off14 L t = ![16 * ((48 * (L 0).val + (8 * t.val + 6) / 4) / 16)] := by
  decide +kernel
/-- Step 2's source in the argument. -/
theorem off15_eq (L : grid0.Coords) (t : Fin k0_t1_loop.trips) (v : BitVec 32) : k0_off15 L t v = srcOff L (8 * t.val + 6) v.toNat :=
  (show k0_off15 L t v = ![k0_off15 L t 0#32 0, v.toNat, k0_off15 L t 0#32 2, 0] from rfl).trans (by
    rw [show k0_off15 L t 0#32 = srcOff L (8 * t.val + 6) 0 by revert L t; decide +kernel]; rfl)
/-- Step 2's side condition holds of a channel. -/
theorem chk7_of (L : grid0.Coords) (t : Fin k0_t1_loop.trips) (v : BitVec 32) (hv : v.toNat < 96) : k0_chk7 L t v := fun _ => by
  rw [off15_eq]; exact src_inb L _ _ hv
/-- Step 2 fetches on every trip. -/
theorem cond5_pos : ∀ t : Fin k0_t1_loop.trips, k0_cond5 t = 1#1 := by decide +kernel

/-- Step 3's load of the permutation's words. -/
theorem off16_eq : ∀ (L : grid0.Coords) (t : Fin k0_t1_loop.trips), k0_off16 L t = ![16 * ((48 * (L 0).val + (8 * t.val + 7) / 4) / 16)] := by
  decide +kernel
/-- Step 3's source in the argument. -/
theorem off17_eq (L : grid0.Coords) (t : Fin k0_t1_loop.trips) (v : BitVec 32) : k0_off17 L t v = srcOff L (8 * t.val + 7) v.toNat :=
  (show k0_off17 L t v = ![k0_off17 L t 0#32 0, v.toNat, k0_off17 L t 0#32 2, 0] from rfl).trans (by
    rw [show k0_off17 L t 0#32 = srcOff L (8 * t.val + 7) 0 by revert L t; decide +kernel]; rfl)
/-- Step 3's side condition holds of a channel. -/
theorem chk8_of (L : grid0.Coords) (t : Fin k0_t1_loop.trips) (v : BitVec 32) (hv : v.toNat < 96) : k0_chk8 L t v := fun _ => by
  rw [off17_eq]; exact src_inb L _ _ hv
/-- Step 3 fetches on every trip. -/
theorem cond7_pos : ∀ t : Fin k0_t1_loop.trips, k0_cond7 t = 1#1 := by decide +kernel

/-- Step 4's load of the permutation's words. -/
theorem off18_eq : ∀ (L : grid0.Coords) (t : Fin k0_t1_loop.trips), k0_off18 L t = ![16 * ((48 * (L 0).val + (8 * t.val + 8) / 4) / 16)] := by
  decide +kernel
/-- Step 4's source in the argument. -/
theorem off19_eq (L : grid0.Coords) (t : Fin k0_t1_loop.trips) (v : BitVec 32) : k0_off19 L t v = srcOff L (8 * t.val + 8) v.toNat :=
  (show k0_off19 L t v = ![k0_off19 L t 0#32 0, v.toNat, k0_off19 L t 0#32 2, 0] from rfl).trans (by
    rw [show k0_off19 L t 0#32 = srcOff L (8 * t.val + 8) 0 by revert L t; decide +kernel]; rfl)
/-- Step 4's side condition holds of a channel. -/
theorem chk9_of (L : grid0.Coords) (t : Fin k0_t1_loop.trips) (v : BitVec 32) (hv : v.toNat < 96) : k0_chk9 L t v := fun _ => by
  rw [off19_eq]; exact src_inb L _ _ hv
/-- Step 4 fetches on every trip but the last. -/
theorem cond9_pos : ∀ t : Fin k0_t1_loop.trips, t.val < 23 → k0_cond9 t = 1#1 := by decide +kernel
/-- Step 4 fetches nothing on the last trip. -/
theorem cond9_last : ∀ t : Fin k0_t1_loop.trips, t.val = 23 → ¬ k0_cond9 t = 1#1 := by decide +kernel

/-- Step 5's load of the permutation's words. -/
theorem off20_eq : ∀ (L : grid0.Coords) (t : Fin k0_t1_loop.trips), k0_off20 L t = ![16 * ((48 * (L 0).val + (8 * t.val + 9) / 4) / 16)] := by
  decide +kernel
/-- Step 5's source in the argument. -/
theorem off21_eq (L : grid0.Coords) (t : Fin k0_t1_loop.trips) (v : BitVec 32) : k0_off21 L t v = srcOff L (8 * t.val + 9) v.toNat :=
  (show k0_off21 L t v = ![k0_off21 L t 0#32 0, v.toNat, k0_off21 L t 0#32 2, 0] from rfl).trans (by
    rw [show k0_off21 L t 0#32 = srcOff L (8 * t.val + 9) 0 by revert L t; decide +kernel]; rfl)
/-- Step 5's side condition holds of a channel. -/
theorem chk10_of (L : grid0.Coords) (t : Fin k0_t1_loop.trips) (v : BitVec 32) (hv : v.toNat < 96) : k0_chk10 L t v := fun _ => by
  rw [off21_eq]; exact src_inb L _ _ hv
/-- Step 5 fetches on every trip but the last. -/
theorem cond11_pos : ∀ t : Fin k0_t1_loop.trips, t.val < 23 → k0_cond11 t = 1#1 := by decide +kernel
/-- Step 5 fetches nothing on the last trip. -/
theorem cond11_last : ∀ t : Fin k0_t1_loop.trips, t.val = 23 → ¬ k0_cond11 t = 1#1 := by decide +kernel

/-- Step 6's load of the permutation's words. -/
theorem off22_eq : ∀ (L : grid0.Coords) (t : Fin k0_t1_loop.trips), k0_off22 L t = ![16 * ((48 * (L 0).val + (8 * t.val + 10) / 4) / 16)] := by
  decide +kernel
/-- Step 6's source in the argument. -/
theorem off23_eq (L : grid0.Coords) (t : Fin k0_t1_loop.trips) (v : BitVec 32) : k0_off23 L t v = srcOff L (8 * t.val + 10) v.toNat :=
  (show k0_off23 L t v = ![k0_off23 L t 0#32 0, v.toNat, k0_off23 L t 0#32 2, 0] from rfl).trans (by
    rw [show k0_off23 L t 0#32 = srcOff L (8 * t.val + 10) 0 by revert L t; decide +kernel]; rfl)
/-- Step 6's side condition holds of a channel. -/
theorem chk11_of (L : grid0.Coords) (t : Fin k0_t1_loop.trips) (v : BitVec 32) (hv : v.toNat < 96) : k0_chk11 L t v := fun _ => by
  rw [off23_eq]; exact src_inb L _ _ hv
/-- Step 6 fetches on every trip but the last. -/
theorem cond13_pos : ∀ t : Fin k0_t1_loop.trips, t.val < 23 → k0_cond13 t = 1#1 := by decide +kernel
/-- Step 6 fetches nothing on the last trip. -/
theorem cond13_last : ∀ t : Fin k0_t1_loop.trips, t.val = 23 → ¬ k0_cond13 t = 1#1 := by decide +kernel

/-- Step 7's load of the permutation's words. -/
theorem off24_eq : ∀ (L : grid0.Coords) (t : Fin k0_t1_loop.trips), k0_off24 L t = ![16 * ((48 * (L 0).val + (8 * t.val + 11) / 4) / 16)] := by
  decide +kernel
/-- Step 7's source in the argument. -/
theorem off25_eq (L : grid0.Coords) (t : Fin k0_t1_loop.trips) (v : BitVec 32) : k0_off25 L t v = srcOff L (8 * t.val + 11) v.toNat :=
  (show k0_off25 L t v = ![k0_off25 L t 0#32 0, v.toNat, k0_off25 L t 0#32 2, 0] from rfl).trans (by
    rw [show k0_off25 L t 0#32 = srcOff L (8 * t.val + 11) 0 by revert L t; decide +kernel]; rfl)
/-- Step 7's side condition holds of a channel. -/
theorem chk12_of (L : grid0.Coords) (t : Fin k0_t1_loop.trips) (v : BitVec 32) (hv : v.toNat < 96) : k0_chk12 L t v := fun _ => by
  rw [off25_eq]; exact src_inb L _ _ hv
/-- Step 7 fetches on every trip but the last. -/
theorem cond15_pos : ∀ t : Fin k0_t1_loop.trips, t.val < 23 → k0_cond15 t = 1#1 := by decide +kernel
/-- Step 7 fetches nothing on the last trip. -/
theorem cond15_last : ∀ t : Fin k0_t1_loop.trips, t.val = 23 → ¬ k0_cond15 t = 1#1 := by decide +kernel

/-! ## The four fetches before the loop -/

/-- Fetch 0's load of the permutation's words. -/
theorem off1_eq : ∀ L : grid0.Coords, k0_off1 L = ![16 * ((48 * (L 0).val + 0 / 4) / 16)] := by decide +kernel
/-- Fetch 0's source in the argument. -/
theorem off2_eq (L : grid0.Coords) (v : BitVec 32) : k0_off2 L v = srcOff L 0 v.toNat :=
  (show k0_off2 L v = ![k0_off2 L 0#32 0, v.toNat, k0_off2 L 0#32 2, 0] from rfl).trans (by
    rw [show k0_off2 L 0#32 = srcOff L 0 0 by revert L; decide +kernel]; rfl)
/-- Fetch 0's side condition holds of a channel. -/
theorem chk1_of (L : grid0.Coords) (v : BitVec 32) (hv : v.toNat < 96) : k0_chk1 L v := by
  unfold k0_chk1; rw [off2_eq]; exact src_inb L _ _ hv

/-- Fetch 1's load of the permutation's words. -/
theorem off3_eq : ∀ L : grid0.Coords, k0_off3 L = ![16 * ((48 * (L 0).val + 1 / 4) / 16)] := by decide +kernel
/-- Fetch 1's source in the argument. -/
theorem off4_eq (L : grid0.Coords) (v : BitVec 32) : k0_off4 L v = srcOff L 1 v.toNat :=
  (show k0_off4 L v = ![k0_off4 L 0#32 0, v.toNat, k0_off4 L 0#32 2, 0] from rfl).trans (by
    rw [show k0_off4 L 0#32 = srcOff L 1 0 by revert L; decide +kernel]; rfl)
/-- Fetch 1's side condition holds of a channel. -/
theorem chk2_of (L : grid0.Coords) (v : BitVec 32) (hv : v.toNat < 96) : k0_chk2 L v := by
  unfold k0_chk2; rw [off4_eq]; exact src_inb L _ _ hv

/-- Fetch 2's load of the permutation's words. -/
theorem off5_eq : ∀ L : grid0.Coords, k0_off5 L = ![16 * ((48 * (L 0).val + 2 / 4) / 16)] := by decide +kernel
/-- Fetch 2's source in the argument. -/
theorem off6_eq (L : grid0.Coords) (v : BitVec 32) : k0_off6 L v = srcOff L 2 v.toNat :=
  (show k0_off6 L v = ![k0_off6 L 0#32 0, v.toNat, k0_off6 L 0#32 2, 0] from rfl).trans (by
    rw [show k0_off6 L 0#32 = srcOff L 2 0 by revert L; decide +kernel]; rfl)
/-- Fetch 2's side condition holds of a channel. -/
theorem chk3_of (L : grid0.Coords) (v : BitVec 32) (hv : v.toNat < 96) : k0_chk3 L v := by
  unfold k0_chk3; rw [off6_eq]; exact src_inb L _ _ hv

/-- Fetch 3's load of the permutation's words. -/
theorem off7_eq : ∀ L : grid0.Coords, k0_off7 L = ![16 * ((48 * (L 0).val + 3 / 4) / 16)] := by decide +kernel
/-- Fetch 3's source in the argument. -/
theorem off8_eq (L : grid0.Coords) (v : BitVec 32) : k0_off8 L v = srcOff L 3 v.toNat :=
  (show k0_off8 L v = ![k0_off8 L 0#32 0, v.toNat, k0_off8 L 0#32 2, 0] from rfl).trans (by
    rw [show k0_off8 L 0#32 = srcOff L 3 0 by revert L; decide +kernel]; rfl)
/-- Fetch 3's side condition holds of a channel. -/
theorem chk4_of (L : grid0.Coords) (v : BitVec 32) (hv : v.toNat < 96) : k0_chk4 L v := by
  unfold k0_chk4; rw [off8_eq]; exact src_inb L _ _ hv

end Cert.Proof.Chan
-- ==== Proof.Ring.lean ====
/-
  The ring's state: what each slot, semaphore and chunk of the result is between two trips of the loop.
-/
module

public import proofs.«01_k».proof.Proof.Words
public import Idealize.ShloMosaic.Lib.SparseCore.ProtocolKit

@[expose] public section

noncomputable section

namespace Cert.Proof.Chan

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

open Idealize.ShloMosaic.SparseCore.ProtocolKit

variable {F : FTy → Type} [FloatOps F]
local notation "𝕄" => MT nD τ sig (HIx 1) (Elt F) ℕ UU ℕ
variable (m : (ℓ : Loc nD τ sig) → Buf (Elt F) ℓ)
variable (d : Dev nD) (L : grid0.Coords)

/-! ## The pieces -/

/-- The DMA semaphore of number `k`. -/
abbrev csem (k : Nat) (hk : k < 17 := by decide) : DmaSem sig := ⟨k, hk⟩
/-- The tile's semaphore of number `k`, at rest. -/
abbrev cell0 (k : ℕ) (hk : k < 17 := by decide) : sProp 𝕄 := semVal (VT d L, SemLoc.dma (csem k hk)) 0
/-- The read share of the argument that the fetches on semaphore `k` use. -/
abbrev tokZ (q : PosShare TreeShare) (k : ℕ) : sProp 𝕄 := (zV).view.loc (VT d L) ↦{Transfers.shareTokN q k} m (zLoc d)
/-- Row `k` lies in the ring. -/
theorem slot_inb (k : ℕ) (hk : k < 8) : ∀ a, (![k, 0, 0] : Fin 3 → Nat) a + S1x56x224.size a ≤ S8x56x224.size a := by
  intro a
  match a with
  | ⟨0, _⟩ => exact (show k + 1 ≤ 8 by omega)
  | ⟨1, _⟩ => exact (show 0 + 56 ≤ 56 by omega)
  | ⟨2, _⟩ => exact (show 0 + 224 ≤ 224 by omega)
/-- Slot `k`, holding `f`. -/
abbrev slotP (k : ℕ) (f : Buf (Elt F) ((VT d L).loc cc0_scratch1)) (hk : k < 8 := by decide) : sProp 𝕄 :=
  (slot k (slot_inb k hk)).view.loc (VT d L) ↦[(slot k (slot_inb k hk)).view.set]{fullShare} f
/-- The block of the result at offset `off`, holding `f`. -/
abbrev winO (off : Fin 4 → Nat) (h : ∀ a, off a + S1x1x56x224.size a ≤ S16x96x224x224.size a) (f : Buf (Elt F) (oLoc d)) : sProp 𝕄 :=
  (win oV off h).view.loc (VT d L) ↦[(win oV off h).view.set]{fullShare} f
/-- Chunk `j` lies in the result. -/
theorem chunk_inb (j : ℕ) (hj : j < 192) : ∀ a, chunkOff L j a + S1x1x56x224.size a ≤ S16x96x224x224.size a :=
  src_inb L j _ (by have h : (L 0).val < 2 := (L 0).isLt; omega)
/-- Chunk `j` of the result, holding `f`. -/
def chunkP (j : ℕ) (f : Buf (Elt F) (oLoc d)) : sProp 𝕄 :=
  if hj : j < 192 then winO d L (chunkOff L j) (chunk_inb L j hj) f else iprop(emp)

/-- The block the program names at step `r` of trip `t` is chunk `8 t + r`. -/
theorem win_chunk (t : Fin k0_t1_loop.trips) (r : Fin 8) (f : Buf (Elt F) (oLoc d)) :
    winO d L (k0_off9 L t (BitVec.ofNat 32 r.val)) (k0_off9_inb L t r) f = chunkP d L (8 * t.val + r.val) f := by
  have hj : 8 * t.val + r.val < 192 := by have h : t.val < 24 := trips_eq ▸ t.isLt; have := r.isLt; omega
  unfold chunkP
  rw [dif_pos hj]
  have h := off9_eq L t r
  generalize k0_off9_inb L t r = hi
  revert hi
  rw [h]
  exact fun _ => rfl

/-- A fetch of chunk `j` into slot `k`: it delivers the slot with the chunk in it and the read share it was given. -/
abbrev gFl (q : PosShare TreeShare) (k j : ℕ) (hk : k < 8 := by decide) : sProp 𝕄 :=
  Transfers.Flight countersEmb (VT d L) (SemLoc.dma (csem k (by omega))) (default : HIx 1) 401408
    iprop(slotP d L k (slotVal m d L j) hk ∗ tokZ m d L q k)
/-- A copy of chunk `j` out of slot `k`: it delivers the chunk of the result and the slot. -/
abbrev sFl (k j : ℕ) (hk : k < 8 := by decide) : sProp 𝕄 :=
  Transfers.Flight countersEmb (VT d L) (SemLoc.dma (csem (k + 8) (by omega))) (default : HIx 1) 401408
    iprop(chunkP d L j (outVal m d) ∗ slotP d L k (slotVal m d L j) hk)

/-! ## What the run leaves, in those terms -/

omit [FloatOps F] in
/-- A slot that reads as chunk `j` is the slot with chunk `j` in it. -/
theorem slot_eq (k j : ℕ) (hk : k < 8) (b : Buf (Elt F) ((VT d L).loc cc0_scratch1))
    (hb : (slot k (slot_inb k hk)).view.read (Elt F) b = chunkVal m d L j) : slotP d L k b hk = slotP d L k (slotVal m d L j) hk :=
  pts_of_read (c := VT d L) (slot k (slot_inb k hk)).view (hb.trans (slot_read m d L j k _).symm)

/-- What is set aside while a copy is in flight can be counted into its delivery. -/
theorem flight_frame (sm : SemLoc sig) (N : ℕ) (D X : sProp 𝕄) :
    iprop(Transfers.Flight countersEmb (VT d L) sm (default : HIx 1) N D ∗ X)
      ⊢ Transfers.Flight countersEmb (VT d L) sm (default : HIx 1) N iprop(D ∗ X) := by
  unfold Transfers.Flight
  iintro ⟨⟨⟨%R, HR, %hcap, %hpeek⟩, Hcred⟩, HX⟩
  isplitl [HR HX]
  · iexists iprop(R ∗ X)
    isplitl [HR HX]; · isplitl [HR] <;> iassumption
    isplit
    · ipureintro
      intro K
      refine BIBase.Entails.trans ?_ (hcap K)
      iintro ⟨⟨HR, HX⟩, HK⟩
      isplitl [HR]; · iexact HR
      iintro ⟨Hv, HD⟩
      iapply HK
      isplitl [Hv]; · iexact Hv
      isplitl [HD] <;> iassumption
    · ipureintro
      intro K
      refine BIBase.Entails.trans ?_ (hpeek K)
      iintro ⟨⟨HR, HX⟩, HK⟩
      isplitl [HR]; · iexact HR
      iintro HR
      iapply HK
      isplitl [HR] <;> iassumption
  · iexact Hcred

/-- A fetch as the run starts it is a fetch of chunk `j`, when what it carries is chunk `j`. -/
theorem fetch_canon (q : PosShare TreeShare) (k j : ℕ) (hk : k < 8) (b : Buf (Elt F) ((VT d L).loc cc0_scratch1)) (off : Fin 4 → Nat)
    (h : ∀ a, off a + S1x1x56x224.size a ≤ S16x96x224x224.size a) (pay : S56x224.Idx → Elt F .f32) (hp : pay = chunkVal m d L j) :
    iprop(Transfers.Flight countersEmb (VT d L) (SemLoc.dma (csem k (by omega))) (default : HIx 1) 401408
        iprop(slotP d L k ((slot k (slot_inb k hk)).view.writes (Elt F) b [⟨Rect.whole S56x224, pay⟩]) hk
          ∗ ((zV).view.loc (VT d L) ↦[(win zV off h).view.set]{Transfers.shareTokN q k} m (zLoc d)))
      ∗ ((zV).view.loc (VT d L) ↦[Finset.univ \ (win zV off h).view.set]{Transfers.shareTokN q k} m (zLoc d)))
      ⊢ gFl m d L q k j hk := by
  refine (flight_frame d L _ _ _ _).trans (Transfers.Flight_mono _ _ ?_)
  iintro ⟨⟨HS, HZ⟩, HR⟩
  isplitl [HS]
  · iapply (Entails.of_eq (pts_written (c := VT d L) (slot k (slot_inb k hk)).view (hp.trans (slot_read m d L j k _).symm)))
    iexact HS
  · iapply (pointsTo_split_subset (Finset.subset_univ (win zV off h).view.set)).2
    isplitl [HZ] <;> iassumption

/-- A block written with what a slot that reads as chunk `8 t + r` holds is that chunk of the wanted result. -/
theorem done_canon (t : Fin k0_t1_loop.trips) (r : Fin 8) (b : Buf (Elt F) ((VT d L).loc cc0_scratch1)) (o : Buf (Elt F) (oLoc d))
    (hb : (slot r.val (slot_inb r.val r.isLt)).view.read (Elt F) b = chunkVal m d L (8 * t.val + r.val)) :
    winO d L (k0_off9 L t (BitVec.ofNat 32 r.val)) (k0_off9_inb L t r) ((win oV (k0_off9 L t (BitVec.ofNat 32 r.val)) (k0_off9_inb L t r)).view.writes (Elt F) o
            [⟨Rect.whole S56x224, (slot r.val (slot_inb r.val r.isLt)).view.read (Elt F) b⟩])
      = chunkP d L (8 * t.val + r.val) (outVal m d) := by
  have hj : 8 * t.val + r.val < 192 := by have h : t.val < 24 := trips_eq ▸ t.isLt; have := r.isLt; omega
  rw [← win_chunk]
  exact pts_written (c := VT d L) (win oV (k0_off9 L t (BitVec.ofNat 32 r.val)) (k0_off9_inb L t r)).view
    (hb.trans (out_read m d L ⟨_, hj⟩ _ (off9_eq L t r) _).symm)

/-- A copy out as the run starts it is a copy of chunk `j`, when the slot reads as chunk `j`. -/
theorem store_canon (t : Fin k0_t1_loop.trips) (r : Fin 8) (b : Buf (Elt F) ((VT d L).loc cc0_scratch1)) (o : Buf (Elt F) (oLoc d))
    (hb : (slot r.val (slot_inb r.val r.isLt)).view.read (Elt F) b = chunkVal m d L (8 * t.val + r.val)) :
    Transfers.Flight countersEmb (VT d L) (SemLoc.dma (csem (r.val + 8) (by omega))) (default : HIx 1) 401408
        iprop(winO d L (k0_off9 L t (BitVec.ofNat 32 r.val)) (k0_off9_inb L t r) ((win oV (k0_off9 L t (BitVec.ofNat 32 r.val)) (k0_off9_inb L t r)).view.writes (Elt F) o
            [⟨Rect.whole S56x224, (slot r.val (slot_inb r.val r.isLt)).view.read (Elt F) b⟩])
          ∗ slotP d L r.val b r.isLt)
      ⊢ sFl m d L r.val (8 * t.val + r.val) r.isLt := by
  refine Transfers.Flight_mono _ _ ?_
  rw [done_canon m d L t r b o hb, slot_eq m d L r.val (8 * t.val + r.val) r.isLt b hb]

/-- The lane selection of step `r` of trip `t` yields the permutation's word for the chunk it fetches. -/
theorem perm_word (t : Fin k0_t1_loop.trips) (r : Fin 8) (hj : 8 * t.val + r.val + 4 < 192) (v29 : BitVec 32) (hv : v29 = baseWord L)
    (off : Fin 1 → Nat) (ho : off = ![16 * ((48 * (L 0).val + (8 * t.val + r.val + 4) / 4) / 16)]) (h : ∀ a, off a + S16.size a ≤ S96.size a) :
    extractAt ![15] (scan .sum (select (cmpi .eq (iota .scVector S16 32 [0] iota_S16_d0_w32_scVector)
        (broadcast S16 (laneWord v29 (nextWord t (BitVec.ofNat 32 r.val)))))
      (View.readAt (Elt F) (lV).view (Rect.unit (s := S96) off S16.size h).toLoadRect (permBuf m d L) : Vec F S16 .i32) (broadcast S16 0#32) :
      IVec S16 32)) inpos_S16_p15 = m (pLoc d) (ix1 (chan L ⟨8 * t.val + r.val + 4, hj⟩)) :=
  perm_at m d L (chan L ⟨8 * t.val + r.val + 4, hj⟩) _ (by rw [hv]; exact lane_base L t r) off ho h

/-! ## The chunks of the result, those written and those to come -/

/-- The chunks from `n` on, at `f`. -/
def ahead (n : ℕ) (f : Buf (Elt F) (oLoc d)) : sProp 𝕄 := bigSep (finFrom 192 n) fun j => chunkP d L j.val f
/-- The chunks before `n`, at `f`. -/
def behind (n : ℕ) (f : Buf (Elt F) (oLoc d)) : sProp 𝕄 := bigSep (finUpTo 192 n) fun j => chunkP d L j.val f

/-- The first of the chunks to come. -/
theorem ahead_succ (n : ℕ) (hn : n < 192) (f : Buf (Elt F) (oLoc d)) : ahead d L n f = iprop(chunkP d L n f ∗ ahead d L (n + 1) f) :=
  bigSep_finFrom_succ hn _
/-- The last of the chunks written. -/
theorem behind_succ (n : ℕ) (hn : n < 192) (f : Buf (Elt F) (oLoc d)) : behind d L (n + 1) f = iprop(chunkP d L n f ∗ behind d L n f) :=
  bigSep_finUpTo_succ hn _

/-- A trip's eight chunks, out of those to come, as the program names them. -/
theorem ahead_trip (t : Fin k0_t1_loop.trips) (f : Buf (Elt F) (oLoc d)) :
    ahead d L (8 * t.val) f ⊢ iprop(winO d L (k0_off9 L t 0#32) (k0_off9_inb L t 0) f ∗ winO d L (k0_off9 L t 1#32) (k0_off9_inb L t 1) f
      ∗ winO d L (k0_off9 L t 2#32) (k0_off9_inb L t 2) f ∗ winO d L (k0_off9 L t 3#32) (k0_off9_inb L t 3) f
      ∗ winO d L (k0_off9 L t 4#32) (k0_off9_inb L t 4) f ∗ winO d L (k0_off9 L t 5#32) (k0_off9_inb L t 5) f
      ∗ winO d L (k0_off9 L t 6#32) (k0_off9_inb L t 6) f ∗ winO d L (k0_off9 L t 7#32) (k0_off9_inb L t 7) f
      ∗ ahead d L (8 * (t.val + 1)) f) := by
  have ht : t.val < 24 := trips_eq ▸ t.isLt
  rw [ahead_succ d L _ (by omega), ahead_succ d L _ (by omega), ahead_succ d L _ (by omega), ahead_succ d L _ (by omega),
    ahead_succ d L _ (by omega), ahead_succ d L _ (by omega), ahead_succ d L _ (by omega), ahead_succ d L _ (by omega)]
  refine (Entails.of_eq ?_)
  exact (congr (congrArg _ (win_chunk d L t 0 f).symm) (congr (congrArg _ (win_chunk d L t 1 f).symm) (congr (congrArg _ (win_chunk d L t 2 f).symm)
    (congr (congrArg _ (win_chunk d L t 3 f).symm) (congr (congrArg _ (win_chunk d L t 4 f).symm) (congr (congrArg _ (win_chunk d L t 5 f).symm)
    (congr (congrArg _ (win_chunk d L t 6 f).symm) (congr (congrArg _ (win_chunk d L t 7 f).symm) rfl))))))))

/-- Four more chunks written. -/
theorem behind_four (n : ℕ) (hn : n + 4 ≤ 192) (f : Buf (Elt F) (oLoc d)) :
    iprop(behind d L n f ∗ chunkP d L n f ∗ chunkP d L (n + 1) f ∗ chunkP d L (n + 2) f ∗ chunkP d L (n + 3) f) ⊢ behind d L (n + 4) f := by
  rw [behind_succ d L (n + 3) (by omega), behind_succ d L (n + 2) (by omega), behind_succ d L (n + 1) (by omega), behind_succ d L n (by omega)]
  iintro ⟨HB, H0, H1, H2, H3⟩
  isplitl [H3]; · iexact H3
  isplitl [H2]; · iexact H2
  isplitl [H1]; · iexact H1
  isplitl [H0] <;> iassumption

/-! ## The state between trips -/

/-- Slots 0 to 3 before trip `p`: each with its fetch in flight; after the last trip, each with its copy out in flight. -/
def lowP (q : PosShare TreeShare) (p : ℕ) : sProp 𝕄 :=
  if p < 24 then
    iprop(gFl m d L q 0 (8 * p) ∗ gFl m d L q 1 (8 * p + 1) ∗ gFl m d L q 2 (8 * p + 2) ∗ gFl m d L q 3 (8 * p + 3)
      ∗ cell0 d L 8 ∗ cell0 d L 9 ∗ cell0 d L 10 ∗ cell0 d L 11)
  else
    iprop(sFl m d L 0 184 ∗ sFl m d L 1 185 ∗ sFl m d L 2 186 ∗ sFl m d L 3 187
      ∗ (tokZ m d L q 0 ∗ tokZ m d L q 1 ∗ tokZ m d L q 2 ∗ tokZ m d L q 3)
      ∗ cell0 d L 0 ∗ cell0 d L 1 ∗ cell0 d L 2 ∗ cell0 d L 3)

/-- Slots 4 to 7 before trip `p`: free before the first trip, afterwards each with its copy out in flight. -/
def highP (p : ℕ) : sProp 𝕄 :=
  if p = 0 then
    iprop((∃ b, slotP d L 4 b) ∗ (∃ b, slotP d L 5 b) ∗ (∃ b, slotP d L 6 b) ∗ (∃ b, slotP d L 7 b)
      ∗ cell0 d L 12 ∗ cell0 d L 13 ∗ cell0 d L 14 ∗ cell0 d L 15)
  else
    iprop(sFl m d L 4 (8 * p - 4) ∗ sFl m d L 5 (8 * p - 4 + 1) ∗ sFl m d L 6 (8 * p - 4 + 2) ∗ sFl m d L 7 (8 * p - 4 + 3))

/-- What every trip finds and leaves alike: the permutation's words, the read shares and semaphores of the later four
    fetches, and the record of what has been waited for. -/
def keepP (q : PosShare TreeShare) (O : CellTallies nD τ sig (HIx 1)) (W : Waits sig (HIx 1)) : sProp 𝕄 :=
  iprop(Transfers.MayWaits (VT d L) (default : HIx 1) O
    ∗ ((lV).view.loc (VT d L) ↦[(lV).view.set]{fullShare} permBuf m d L)
    ∗ tokZ m d L q 4 ∗ tokZ m d L q 5 ∗ tokZ m d L q 6 ∗ tokZ m d L q 7
    ∗ cell0 d L 4 ∗ cell0 d L 5 ∗ cell0 d L 6 ∗ cell0 d L 7
    ∗ ∃ W', ⌜∀ p ∈ W', p ∈ W ∨ p.2 = none ∨ p.2 = some 0⌝ ∗ owes (VT d L) O W')

/-- The state before trip `p`. -/
def inv (q : PosShare TreeShare) (O : CellTallies nD τ sig (HIx 1)) (W : Waits sig (HIx 1)) (p : ℕ) (_ : BitVec 32) : sProp 𝕄 :=
  iprop(keepP m d L q O W ∗ lowP m d L q p ∗ highP m d L p ∗ ahead d L (8 * p) (m (oLoc d))
    ∗ behind d L (if p < 24 then 8 * p - 4 else 184) (outVal m d))

end Cert.Proof.Chan
-- ==== Proof.Trip.lean ====
/-
  One trip of the loop: from the state before it to the state after it. The first trip finds the later four slots free, the
  last one fetches nothing into the first four; every trip between is alike.
-/
module

public import proofs.«01_k».proof.Proof.Ring

@[expose] public section

noncomputable section

namespace Cert.Proof.Chan

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]
local notation "𝕄" => MT nD τ sig (HIx 1) (Elt F) ℕ UU ℕ
variable (m : (ℓ : Loc nD τ sig) → Buf (Elt F) ℓ)
variable (d : Dev nD) (L : grid0.Coords)

/-- The body of trip `t`. -/
abbrev tripBody (v29 v215 : BitVec 32) (hw : k0_chk4 L v215) (t : Fin k0_t1_loop.trips) (acc : BitVec 32) :=
  k0_t1_body (F := F) L zV (Memref.isWhole_whole _) pV (Memref.isWhole_whole _) oV (Memref.isWhole_whole _)
    lV (Memref.isWhole_whole _) bV (Memref.isWhole_whole _) cc0_scratch2 cc0_scratch3 cc0_scoped0 v29 v215 hw t acc

omit [FloatOps F] in
/-- The record of waits, grown by one on the transfers' index, still names only the waits allowed. -/
theorem waits_insert {W W' : Waits sig (HIx 1)} (x : SemLoc sig) (h : ∀ p ∈ W', p ∈ W ∨ p.2 = none ∨ p.2 = some 0) :
    ∀ p ∈ insert (x, (default : HIx 1)) W', p ∈ W ∨ p.2 = none ∨ p.2 = some 0 := by
  intro p hp
  rcases Finset.mem_insert.mp hp with hp | hp
  · exact .inr (.inl (hp ▸ rfl))
  · exact h p hp

/-- The word that step `r` of trip `t` selects is a channel. -/
theorem perm_lt (hp : PreOK m) (t : Fin k0_t1_loop.trips) (r : Fin 8) (hj : 8 * t.val + r.val + 4 < 192) (v29 : BitVec 32) (hv : v29 = baseWord L)
    (off : Fin 1 → Nat) (ho : off = ![16 * ((48 * (L 0).val + (8 * t.val + (r.val + 4)) / 4) / 16)]) (h : ∀ a, off a + S16.size a ≤ S96.size a) :
    BitVec.toNat (extractAt ![15] (scan .sum (select (cmpi .eq (iota .scVector S16 32 [0] iota_S16_d0_w32_scVector)
        (broadcast S16 (laneWord v29 (nextWord t (BitVec.ofNat 32 r.val)))))
      (View.readAt (Elt F) (lV).view (Rect.unit (s := S96) off S16.size h).toLoadRect (permBuf m d L) : Vec F S16 .i32) (broadcast S16 0#32) :
      IVec S16 32)) inpos_S16_p15) < 96 := by
  rw [perm_word m d L t r hj v29 hv off ho h]; exact hp d _

/-- What step `r` of trip `t` fetches is the chunk four after its own. -/
theorem fetch_read (hp : PreOK m) (t : Fin k0_t1_loop.trips) (r : Fin 8) (hj : 8 * t.val + r.val + 4 < 192) (v29 : BitVec 32) (hv : v29 = baseWord L)
    (off : Fin 1 → Nat) (ho : off = ![16 * ((48 * (L 0).val + (8 * t.val + (r.val + 4)) / 4) / 16)]) (h : ∀ a, off a + S16.size a ≤ S96.size a)
    (v : BitVec 32) (hx : v = extractAt ![15] (scan .sum (select (cmpi .eq (iota .scVector S16 32 [0] iota_S16_d0_w32_scVector)
        (broadcast S16 (laneWord v29 (nextWord t (BitVec.ofNat 32 r.val)))))
      (View.readAt (Elt F) (lV).view (Rect.unit (s := S96) off S16.size h).toLoadRect (permBuf m d L) : Vec F S16 .i32) (broadcast S16 0#32) :
      IVec S16 32)) inpos_S16_p15)
    (off' : Fin 4 → Nat) (ho' : off' = srcOff L (8 * t.val + (r.val + 4)) v.toNat) (h' : ∀ a, off' a + S1x1x56x224.size a ≤ S16x96x224x224.size a) :
    (win zV off' h').view.read (Elt F) (m (zLoc d)) = chunkVal m d L (8 * t.val + r.val + 4) := by
  refine src_read m d L ⟨_, hj⟩ hp off' (ho'.trans ?_) h'
  rw [hx, perm_word m d L t r hj v29 hv off ho h]
  rfl

/-- A fetch that step `r` of trip `t` starts is a fetch of the chunk four after its own. -/
theorem fetch_trip (hp : PreOK m) (q : PosShare TreeShare) (t : Fin k0_t1_loop.trips) (r : Fin 8) (k : ℕ) (hk : k < 8) (j : ℕ)
    (hje : 8 * t.val + r.val + 4 = j) (hj : 8 * t.val + r.val + 4 < 192) (v29 : BitVec 32) (hv : v29 = baseWord L)
    (off : Fin 1 → Nat) (ho : off = ![16 * ((48 * (L 0).val + (8 * t.val + (r.val + 4)) / 4) / 16)]) (h : ∀ a, off a + S16.size a ≤ S96.size a)
    (v : BitVec 32) (hx : v = extractAt ![15] (scan .sum (select (cmpi .eq (iota .scVector S16 32 [0] iota_S16_d0_w32_scVector)
        (broadcast S16 (laneWord v29 (nextWord t (BitVec.ofNat 32 r.val)))))
      (View.readAt (Elt F) (lV).view (Rect.unit (s := S96) off S16.size h).toLoadRect (permBuf m d L) : Vec F S16 .i32) (broadcast S16 0#32) :
      IVec S16 32)) inpos_S16_p15)
    (off' : Fin 4 → Nat) (ho' : off' = srcOff L (8 * t.val + (r.val + 4)) v.toNat) (h' : ∀ a, off' a + S1x1x56x224.size a ≤ S16x96x224x224.size a)
    (b : Buf (Elt F) ((VT d L).loc cc0_scratch1)) :
    iprop(Transfers.Flight countersEmb (VT d L) (SemLoc.dma (csem k (by omega))) (default : HIx 1) 401408
        iprop(slotP d L k ((slot k (slot_inb k hk)).view.writes (Elt F) b [⟨Rect.whole S56x224, (win zV off' h').view.read (Elt F) (m (zLoc d))⟩]) hk
          ∗ ((zV).view.loc (VT d L) ↦[(win zV off' h').view.set]{Transfers.shareTokN q k} m (zLoc d)))
      ∗ ((zV).view.loc (VT d L) ↦[Finset.univ \ (win zV off' h').view.set]{Transfers.shareTokN q k} m (zLoc d)))
      ⊢ gFl m d L q k j hk :=
  hje ▸ fetch_canon m d L q k _ hk b off' h' _ (fetch_read m d L hp t r hj v29 hv off ho h v hx off' ho' h')

/-- A copy out that step `r` of trip `t` starts, of a slot that the step four before has filled. -/
theorem store_trip (hp : PreOK m) (t : Fin k0_t1_loop.trips) (r r' : Fin 8) (hr : r.val = r'.val + 4) (j : ℕ)
    (hje : 8 * t.val + r.val = j) (hj : 8 * t.val + r'.val + 4 < 192) (v29 : BitVec 32) (hv : v29 = baseWord L)
    (off : Fin 1 → Nat) (ho : off = ![16 * ((48 * (L 0).val + (8 * t.val + (r'.val + 4)) / 4) / 16)]) (h : ∀ a, off a + S16.size a ≤ S96.size a)
    (v : BitVec 32) (hx : v = extractAt ![15] (scan .sum (select (cmpi .eq (iota .scVector S16 32 [0] iota_S16_d0_w32_scVector)
        (broadcast S16 (laneWord v29 (nextWord t (BitVec.ofNat 32 r'.val)))))
      (View.readAt (Elt F) (lV).view (Rect.unit (s := S96) off S16.size h).toLoadRect (permBuf m d L) : Vec F S16 .i32) (broadcast S16 0#32) :
      IVec S16 32)) inpos_S16_p15)
    (off' : Fin 4 → Nat) (ho' : off' = srcOff L (8 * t.val + (r'.val + 4)) v.toNat) (h' : ∀ a, off' a + S1x1x56x224.size a ≤ S16x96x224x224.size a)
    (b₀ b : Buf (Elt F) ((VT d L).loc cc0_scratch1))
    (hb : b = (slot r.val (slot_inb r.val r.isLt)).view.writes (Elt F) b₀ [⟨Rect.whole S56x224, (win zV off' h').view.read (Elt F) (m (zLoc d))⟩])
    (o : Buf (Elt F) (oLoc d)) :
    Transfers.Flight countersEmb (VT d L) (SemLoc.dma (csem (r.val + 8) (by omega))) (default : HIx 1) 401408
        iprop(winO d L (k0_off9 L t (BitVec.ofNat 32 r.val)) (k0_off9_inb L t r) ((win oV (k0_off9 L t (BitVec.ofNat 32 r.val)) (k0_off9_inb L t r)).view.writes (Elt F) o
            [⟨Rect.whole S56x224, (slot r.val (slot_inb r.val r.isLt)).view.read (Elt F) b⟩])
          ∗ slotP d L r.val b r.isLt)
      ⊢ sFl m d L r.val j r.isLt := by
  subst hje hb
  refine store_canon m d L t r _ o ?_
  rw [View.read_writes_whole, fetch_read m d L hp t r' hj v29 hv off ho h v hx off' ho' h', Nat.add_assoc, ← hr]

/-- A chunk that step `r` of trip `t` writes from a slot that its trip found filled. -/
theorem done_trip (t : Fin k0_t1_loop.trips) (r : Fin 8) (j : ℕ) (hje : 8 * t.val + r.val = j) (o : Buf (Elt F) (oLoc d)) :
    winO d L (k0_off9 L t (BitVec.ofNat 32 r.val)) (k0_off9_inb L t r) ((win oV (k0_off9 L t (BitVec.ofNat 32 r.val)) (k0_off9_inb L t r)).view.writes (Elt F) o
            [⟨Rect.whole S56x224, (slot r.val (slot_inb r.val r.isLt)).view.read (Elt F) (slotVal m d L j)⟩])
      ⊢ chunkP d L j (outVal m d) := by
  subst hje
  exact Entails.of_eq (done_canon m d L t r _ o (slot_read m d L _ r.val _))

/-- A copy out that step `r` of trip `t` starts, of a slot that its trip found filled. -/
theorem hold_trip (t : Fin k0_t1_loop.trips) (r : Fin 8) (j : ℕ) (hje : 8 * t.val + r.val = j) (j' : ℕ) (hj : 8 * t.val + r.val = j') (o : Buf (Elt F) (oLoc d)) :
    Transfers.Flight countersEmb (VT d L) (SemLoc.dma (csem (r.val + 8) (by omega))) (default : HIx 1) 401408
        iprop(winO d L (k0_off9 L t (BitVec.ofNat 32 r.val)) (k0_off9_inb L t r) ((win oV (k0_off9 L t (BitVec.ofNat 32 r.val)) (k0_off9_inb L t r)).view.writes (Elt F) o
            [⟨Rect.whole S56x224, (slot r.val (slot_inb r.val r.isLt)).view.read (Elt F) (slotVal m d L j)⟩])
          ∗ slotP d L r.val (slotVal m d L j) r.isLt)
      ⊢ sFl m d L r.val j' r.isLt := by
  subst hje hj
  exact store_canon m d L t r _ o (slot_read m d L _ r.val _)

set_option maxHeartbeats 8000000 in
/-- A trip that is neither the first nor the last. -/
theorem trip_mid (hp : PreOK m) (q : PosShare TreeShare) (O : CellTallies nD τ sig (HIx 1)) (W : Waits sig (HIx 1)) (v29 v215 : BitVec 32)
    (hv : v29 = baseWord L) (hw : k0_chk4 L v215) (t : Fin k0_t1_loop.trips) (acc : BitVec 32) (h0 : 0 < t.val) (h23 : t.val < 23) :
    inv m d L q O W t.val acc ⊢ wp frame (wpE (defs₀ (F := F)) 𝒱₀ (VT d L) none) Set.univ (tripBody L v29 v215 hw t acc)
      (inv m d L q O W (t.val + 1)) := by
  have h1 := cond1_pos t
  have h3 := cond3_pos t
  have h5 := cond5_pos t
  have h7 := cond7_pos t
  have h9 := cond9_pos t h23
  have h11 := cond11_pos t h23
  have h13 := cond13_pos t h23
  have h15 := cond15_pos t h23
  unfold inv keepP lowP highP
  rw [if_pos (show t.val < 24 by omega), if_neg (show ¬ t.val = 0 by omega), if_pos (show t.val < 24 by omega)]
  iintro ⟨⟨#Hmw, HL, HZ4, HZ5, HZ6, HZ7, Hc4, Hc5, Hc6, Hc7, %W', %hW', HO⟩, ⟨HF0, HF1, HF2, HF3, Hc8, Hc9, Hc10, Hc11⟩,
    ⟨HS4, HS5, HS6, HS7⟩, HA, HB⟩
  ihave HA' := (ahead_trip d L t (m (oLoc d))) $$ HA
  icases HA' with ⟨HW0, HW1, HW2, HW3, HW4, HW5, HW6, HW7, HA⟩
  unfold tripBody
  sl_unfold [k0_t1_body]
  sl_exec (disch := first
    | ((with_reducible refine chk5_of L t _ ?_); exact perm_lt m d L hp t 0 (by omega) v29 hv _ (off10_eq L t) _)
    | ((with_reducible refine chk6_of L t _ ?_); exact perm_lt m d L hp t 1 (by omega) v29 hv _ (off12_eq L t) _)
    | ((with_reducible refine chk7_of L t _ ?_); exact perm_lt m d L hp t 2 (by omega) v29 hv _ (off14_eq L t) _)
    | ((with_reducible refine chk8_of L t _ ?_); exact perm_lt m d L hp t 3 (by omega) v29 hv _ (off16_eq L t) _)
    | ((with_reducible refine chk9_of L t _ ?_); exact perm_lt m d L hp t 4 (by omega) v29 hv _ (off18_eq L t) _)
    | ((with_reducible refine chk10_of L t _ ?_); exact perm_lt m d L hp t 5 (by omega) v29 hv _ (off20_eq L t) _)
    | ((with_reducible refine chk11_of L t _ ?_); exact perm_lt m d L hp t 6 (by omega) v29 hv _ (off22_eq L t) _)
    | ((with_reducible refine chk12_of L t _ ?_); exact perm_lt m d L hp t 7 (by omega) v29 hv _ (off24_eq L t) _)
    | exact View.amount_pos _ _ (show 0 < S56x224.numel by decide)
    | (clear * - h0; decide +kernel +revert))
  sl_step
  rw [if_pos (show t.val + 1 < 24 by omega), if_neg (show ¬ t.val + 1 = 0 by omega), if_pos (show t.val + 1 < 24 by omega),
    show 8 * (t.val + 1) - 4 = 8 * t.val + 4 by omega]
  isplitl [HL HZ4 HZ5 HZ6 HZ7 Hc4 Hc5 Hc6 Hc7 HO]
  · isplitr; · iexact Hmw
    isplitl [HL]; · iexact HL
    isplitl [HZ4]; · iexact HZ4
    isplitl [HZ5]; · iexact HZ5
    isplitl [HZ6]; · iexact HZ6
    isplitl [HZ7]; · iexact HZ7
    isplitl [Hc4]; · iexact Hc4
    isplitl [Hc5]; · iexact Hc5
    isplitl [Hc6]; · iexact Hc6
    isplitl [Hc7]; · iexact Hc7
    iexists _
    isplitr
    rotate_left
    · iexact HO
    · ipureintro
      repeat' apply waits_insert
      exact hW'
  isplitl [HF0 HF0_src HF1 HF1_src HF2 HF2_src HF3 HF3_src Hc8 Hc9 Hc10 Hc11]
  · isplitl [HF0 HF0_src]
    · iapply (fetch_trip m d L hp q t 4 0 _ (8 * (t.val + 1)) (by omega) (by omega) v29 hv _ (off18_eq L t) _ _ rfl _ (off19_eq L t _) _ _)
      isplitl [HF0]; · iexact HF0
      iexact HF0_src
    isplitl [HF1 HF1_src]
    · iapply (fetch_trip m d L hp q t 5 1 _ (8 * (t.val + 1) + 1) (by omega) (by omega) v29 hv _ (off20_eq L t) _ _ rfl _ (off21_eq L t _) _ _)
      isplitl [HF1]; · iexact HF1
      iexact HF1_src
    isplitl [HF2 HF2_src]
    · iapply (fetch_trip m d L hp q t 6 2 _ (8 * (t.val + 1) + 2) (by omega) (by omega) v29 hv _ (off22_eq L t) _ _ rfl _ (off23_eq L t _) _ _)
      isplitl [HF2]; · iexact HF2
      iexact HF2_src
    isplitl [HF3 HF3_src]
    · iapply (fetch_trip m d L hp q t 7 3 _ (8 * (t.val + 1) + 3) (by omega) (by omega) v29 hv _ (off24_eq L t) _ _ rfl _ (off25_eq L t _) _ _)
      isplitl [HF3]; · iexact HF3
      iexact HF3_src
    isplitl [Hc8]; · iexact Hc8
    isplitl [Hc9]; · iexact Hc9
    isplitl [Hc10]; · iexact Hc10
    iexact Hc11
  isplitl [HS4 HS5 HS6 HS7]
  · isplitl [HS4]
    · iapply (store_trip m d L hp t 4 0 rfl (8 * t.val + 4) rfl (by omega) v29 hv _ (off10_eq L t) _ _ rfl _ (off11_eq L t _) _ _ _ rfl _)
      iexact HS4
    isplitl [HS5]
    · iapply (store_trip m d L hp t 5 1 rfl (8 * t.val + 4 + 1) rfl (by omega) v29 hv _ (off12_eq L t) _ _ rfl _ (off13_eq L t _) _ _ _ rfl _)
      iexact HS5
    isplitl [HS6]
    · iapply (store_trip m d L hp t 6 2 rfl (8 * t.val + 4 + 2) rfl (by omega) v29 hv _ (off14_eq L t) _ _ rfl _ (off15_eq L t _) _ _ _ rfl _)
      iexact HS6
    iapply (store_trip m d L hp t 7 3 rfl (8 * t.val + 4 + 3) rfl (by omega) v29 hv _ (off16_eq L t) _ _ rfl _ (off17_eq L t _) _ _ _ rfl _)
    iexact HS7
  isplitl [HA]; · iexact HA
  ihave HB1 := (behind_four d L (8 * t.val - 4) (by omega) (outVal m d)) $$ [HB HS4_dst HS5_dst HS6_dst HS7_dst]
  · isplitl [HB]; · iexact HB
    isplitl [HS4_dst]; · iexact HS4_dst
    isplitl [HS5_dst]; · iexact HS5_dst
    isplitl [HS6_dst] <;> iassumption
  rw [show 8 * t.val - 4 + 4 = 8 * t.val by omega]
  iapply (behind_four d L (8 * t.val) (by omega) (outVal m d))
  isplitl [HB1]; · iexact HB1
  isplitl [HW0]; · iapply (done_trip m d L t 0 _ rfl _); iexact HW0
  isplitl [HW1]; · iapply (done_trip m d L t 1 _ rfl _); iexact HW1
  isplitl [HW2]; · iapply (done_trip m d L t 2 _ rfl _); iexact HW2
  iapply (done_trip m d L t 3 _ rfl _); iexact HW3

set_option maxHeartbeats 8000000 in
/-- The first trip. -/
theorem trip_first (hp : PreOK m) (q : PosShare TreeShare) (O : CellTallies nD τ sig (HIx 1)) (W : Waits sig (HIx 1)) (v29 v215 : BitVec 32)
    (hv : v29 = baseWord L) (hw : k0_chk4 L v215) (t : Fin k0_t1_loop.trips) (acc : BitVec 32) (h0 : t.val = 0) :
    inv m d L q O W t.val acc ⊢ wp frame (wpE (defs₀ (F := F)) 𝒱₀ (VT d L) none) Set.univ (tripBody L v29 v215 hw t acc)
      (inv m d L q O W (t.val + 1)) := by
  have h1 := cond1_pos t
  have h3 := cond3_pos t
  have h5 := cond5_pos t
  have h7 := cond7_pos t
  have h9 := cond9_pos t (by omega)
  have h11 := cond11_pos t (by omega)
  have h13 := cond13_pos t (by omega)
  have h15 := cond15_pos t (by omega)
  unfold inv keepP lowP highP
  rw [if_pos (show t.val < 24 by omega), if_pos h0, if_pos (show t.val < 24 by omega)]
  iintro ⟨⟨#Hmw, HL, HZ4, HZ5, HZ6, HZ7, Hc4, Hc5, Hc6, Hc7, %W', %hW', HO⟩, ⟨HF0, HF1, HF2, HF3, Hc8, Hc9, Hc10, Hc11⟩,
    ⟨⟨%b4, HS4⟩, ⟨%b5, HS5⟩, ⟨%b6, HS6⟩, ⟨%b7, HS7⟩, Hc12, Hc13, Hc14, Hc15⟩, HA, HB⟩
  ihave HA' := (ahead_trip d L t (m (oLoc d))) $$ HA
  icases HA' with ⟨HW0, HW1, HW2, HW3, HW4, HW5, HW6, HW7, HA⟩
  unfold tripBody
  sl_unfold [k0_t1_body]
  sl_exec (disch := first
    | ((with_reducible refine chk5_of L t _ ?_); exact perm_lt m d L hp t 0 (by omega) v29 hv _ (off10_eq L t) _)
    | ((with_reducible refine chk6_of L t _ ?_); exact perm_lt m d L hp t 1 (by omega) v29 hv _ (off12_eq L t) _)
    | ((with_reducible refine chk7_of L t _ ?_); exact perm_lt m d L hp t 2 (by omega) v29 hv _ (off14_eq L t) _)
    | ((with_reducible refine chk8_of L t _ ?_); exact perm_lt m d L hp t 3 (by omega) v29 hv _ (off16_eq L t) _)
    | ((with_reducible refine chk9_of L t _ ?_); exact perm_lt m d L hp t 4 (by omega) v29 hv _ (off18_eq L t) _)
    | ((with_reducible refine chk10_of L t _ ?_); exact perm_lt m d L hp t 5 (by omega) v29 hv _ (off20_eq L t) _)
    | ((with_reducible refine chk11_of L t _ ?_); exact perm_lt m d L hp t 6 (by omega) v29 hv _ (off22_eq L t) _)
    | ((with_reducible refine chk12_of L t _ ?_); exact perm_lt m d L hp t 7 (by omega) v29 hv _ (off24_eq L t) _)
    | exact View.amount_pos _ _ (show 0 < S56x224.numel by decide)
    | (clear * - h0; decide +kernel +revert))
  sl_step
  rw [if_pos (show t.val + 1 < 24 by omega), if_neg (show ¬ t.val + 1 = 0 by omega), if_pos (show t.val + 1 < 24 by omega),
    show 8 * (t.val + 1) - 4 = 8 * t.val + 4 by omega]
  isplitl [HL HZ4 HZ5 HZ6 HZ7 Hc4 Hc5 Hc6 Hc7 HO]
  · isplitr; · iexact Hmw
    isplitl [HL]; · iexact HL
    isplitl [HZ4]; · iexact HZ4
    isplitl [HZ5]; · iexact HZ5
    isplitl [HZ6]; · iexact HZ6
    isplitl [HZ7]; · iexact HZ7
    isplitl [Hc4]; · iexact Hc4
    isplitl [Hc5]; · iexact Hc5
    isplitl [Hc6]; · iexact Hc6
    isplitl [Hc7]; · iexact Hc7
    iexists _
    isplitr
    rotate_left
    · iexact HO
    · ipureintro
      repeat' apply waits_insert
      exact hW'
  isplitl [HF0 HF0_src HF1 HF1_src HF2 HF2_src HF3 HF3_src Hc8 Hc9 Hc10 Hc11]
  · isplitl [HF0 HF0_src]
    · iapply (fetch_trip m d L hp q t 4 0 _ (8 * (t.val + 1)) (by omega) (by omega) v29 hv _ (off18_eq L t) _ _ rfl _ (off19_eq L t _) _ _)
      isplitl [HF0]; · iexact HF0
      iexact HF0_src
    isplitl [HF1 HF1_src]
    · iapply (fetch_trip m d L hp q t 5 1 _ (8 * (t.val + 1) + 1) (by omega) (by omega) v29 hv _ (off20_eq L t) _ _ rfl _ (off21_eq L t _) _ _)
      isplitl [HF1]; · iexact HF1
      iexact HF1_src
    isplitl [HF2 HF2_src]
    · iapply (fetch_trip m d L hp q t 6 2 _ (8 * (t.val + 1) + 2) (by omega) (by omega) v29 hv _ (off22_eq L t) _ _ rfl _ (off23_eq L t _) _ _)
      isplitl [HF2]; · iexact HF2
      iexact HF2_src
    isplitl [HF3 HF3_src]
    · iapply (fetch_trip m d L hp q t 7 3 _ (8 * (t.val + 1) + 3) (by omega) (by omega) v29 hv _ (off24_eq L t) _ _ rfl _ (off25_eq L t _) _ _)
      isplitl [HF3]; · iexact HF3
      iexact HF3_src
    isplitl [Hc8]; · iexact Hc8
    isplitl [Hc9]; · iexact Hc9
    isplitl [Hc10]; · iexact Hc10
    iexact Hc11
  isplitl [Hc12 Hc13 Hc14 Hc15]
  · isplitl [Hc12]
    · iapply (store_trip m d L hp t 4 0 rfl (8 * t.val + 4) rfl (by omega) v29 hv _ (off10_eq L t) _ _ rfl _ (off11_eq L t _) _ _ _ rfl _)
      iexact Hc12
    isplitl [Hc13]
    · iapply (store_trip m d L hp t 5 1 rfl (8 * t.val + 4 + 1) rfl (by omega) v29 hv _ (off12_eq L t) _ _ rfl _ (off13_eq L t _) _ _ _ rfl _)
      iexact Hc13
    isplitl [Hc14]
    · iapply (store_trip m d L hp t 6 2 rfl (8 * t.val + 4 + 2) rfl (by omega) v29 hv _ (off14_eq L t) _ _ rfl _ (off15_eq L t _) _ _ _ rfl _)
      iexact Hc14
    iapply (store_trip m d L hp t 7 3 rfl (8 * t.val + 4 + 3) rfl (by omega) v29 hv _ (off16_eq L t) _ _ rfl _ (off17_eq L t _) _ _ _ rfl _)
    iexact Hc15
  isplitl [HA]; · iexact HA
  rw [show 8 * t.val - 4 = 8 * t.val by omega]
  iapply (behind_four d L (8 * t.val) (by omega) (outVal m d))
  isplitl [HB]; · iexact HB
  isplitl [HW0]; · iapply (done_trip m d L t 0 _ rfl _); iexact HW0
  isplitl [HW1]; · iapply (done_trip m d L t 1 _ rfl _); iexact HW1
  isplitl [HW2]; · iapply (done_trip m d L t 2 _ rfl _); iexact HW2
  iapply (done_trip m d L t 3 _ rfl _); iexact HW3

set_option maxHeartbeats 8000000 in
/-- The last trip. -/
theorem trip_last (hp : PreOK m) (q : PosShare TreeShare) (O : CellTallies nD τ sig (HIx 1)) (W : Waits sig (HIx 1)) (v29 v215 : BitVec 32)
    (hv : v29 = baseWord L) (hw : k0_chk4 L v215) (t : Fin k0_t1_loop.trips) (acc : BitVec 32) (h23 : t.val = 23) :
    inv m d L q O W t.val acc ⊢ wp frame (wpE (defs₀ (F := F)) 𝒱₀ (VT d L) none) Set.univ (tripBody L v29 v215 hw t acc)
      (inv m d L q O W (t.val + 1)) := by
  have h1 := cond1_pos t
  have h3 := cond3_pos t
  have h5 := cond5_pos t
  have h7 := cond7_pos t
  have h9 := cond9_last t h23
  have h11 := cond11_last t h23
  have h13 := cond13_last t h23
  have h15 := cond15_last t h23
  unfold inv keepP lowP highP
  rw [if_pos (show t.val < 24 by omega), if_neg (show ¬ t.val = 0 by omega), if_pos (show t.val < 24 by omega)]
  iintro ⟨⟨#Hmw, HL, HZ4, HZ5, HZ6, HZ7, Hc4, Hc5, Hc6, Hc7, %W', %hW', HO⟩, ⟨HF0, HF1, HF2, HF3, Hc8, Hc9, Hc10, Hc11⟩,
    ⟨HS4, HS5, HS6, HS7⟩, HA, HB⟩
  ihave HA' := (ahead_trip d L t (m (oLoc d))) $$ HA
  icases HA' with ⟨HW0, HW1, HW2, HW3, HW4, HW5, HW6, HW7, HA⟩
  unfold tripBody
  sl_unfold [k0_t1_body]
  sl_exec (disch := first
    | ((with_reducible refine chk5_of L t _ ?_); exact perm_lt m d L hp t 0 (by omega) v29 hv _ (off10_eq L t) _)
    | ((with_reducible refine chk6_of L t _ ?_); exact perm_lt m d L hp t 1 (by omega) v29 hv _ (off12_eq L t) _)
    | ((with_reducible refine chk7_of L t _ ?_); exact perm_lt m d L hp t 2 (by omega) v29 hv _ (off14_eq L t) _)
    | ((with_reducible refine chk8_of L t _ ?_); exact perm_lt m d L hp t 3 (by omega) v29 hv _ (off16_eq L t) _)
    | exact View.amount_pos _ _ (show 0 < S56x224.numel by decide)
    | (clear * - h23; decide +kernel +revert))
  sl_step
  rw [if_neg (show ¬ t.val + 1 < 24 by omega), if_neg (show ¬ t.val + 1 = 0 by omega), if_neg (show ¬ t.val + 1 < 24 by omega),
    show 8 * (t.val + 1) - 4 = 8 * t.val + 4 by omega]
  isplitl [HL HZ4 HZ5 HZ6 HZ7 Hc4 Hc5 Hc6 Hc7 HO]
  · isplitr; · iexact Hmw
    isplitl [HL]; · iexact HL
    isplitl [HZ4]; · iexact HZ4
    isplitl [HZ5]; · iexact HZ5
    isplitl [HZ6]; · iexact HZ6
    isplitl [HZ7]; · iexact HZ7
    isplitl [Hc4]; · iexact Hc4
    isplitl [Hc5]; · iexact Hc5
    isplitl [Hc6]; · iexact Hc6
    isplitl [Hc7]; · iexact Hc7
    iexists _
    isplitr
    rotate_left
    · iexact HO
    · ipureintro
      repeat' apply waits_insert
      exact hW'
  isplitl [HF0 HF0_src HF1 HF1_src HF2 HF2_src HF3 HF3_src Hc8 Hc9 Hc10 Hc11]
  · isplitl [Hc8]; · iapply (hold_trip m d L t 0 _ rfl 184 (by omega) _); iexact Hc8
    isplitl [Hc9]; · iapply (hold_trip m d L t 1 _ rfl 185 (by omega) _); iexact Hc9
    isplitl [Hc10]; · iapply (hold_trip m d L t 2 _ rfl 186 (by omega) _); iexact Hc10
    isplitl [Hc11]; · iapply (hold_trip m d L t 3 _ rfl 187 (by omega) _); iexact Hc11
    isplitl [HF0_src HF1_src HF2_src HF3_src]
    · isplitl [HF0_src]; · iexact HF0_src
      isplitl [HF1_src]; · iexact HF1_src
      isplitl [HF2_src]; · iexact HF2_src
      iexact HF3_src
    isplitl [HF0]; · iexact HF0
    isplitl [HF1]; · iexact HF1
    isplitl [HF2]; · iexact HF2
    iexact HF3
  isplitl [HS4 HS5 HS6 HS7]
  · isplitl [HS4]
    · iapply (store_trip m d L hp t 4 0 rfl (8 * t.val + 4) rfl (by omega) v29 hv _ (off10_eq L t) _ _ rfl _ (off11_eq L t _) _ _ _ rfl _)
      iexact HS4
    isplitl [HS5]
    · iapply (store_trip m d L hp t 5 1 rfl (8 * t.val + 4 + 1) rfl (by omega) v29 hv _ (off12_eq L t) _ _ rfl _ (off13_eq L t _) _ _ _ rfl _)
      iexact HS5
    isplitl [HS6]
    · iapply (store_trip m d L hp t 6 2 rfl (8 * t.val + 4 + 2) rfl (by omega) v29 hv _ (off14_eq L t) _ _ rfl _ (off15_eq L t _) _ _ _ rfl _)
      iexact HS6
    iapply (store_trip m d L hp t 7 3 rfl (8 * t.val + 4 + 3) rfl (by omega) v29 hv _ (off16_eq L t) _ _ rfl _ (off17_eq L t _) _ _ _ rfl _)
    iexact HS7
  isplitl [HA]; · iexact HA
  ihave HB1 := (behind_four d L (8 * t.val - 4) (by omega) (outVal m d)) $$ [HB HS4_dst HS5_dst HS6_dst HS7_dst]
  · isplitl [HB]; · iexact HB
    isplitl [HS4_dst]; · iexact HS4_dst
    isplitl [HS5_dst]; · iexact HS5_dst
    isplitl [HS6_dst] <;> iassumption
  rw [show 184 = 8 * t.val - 4 + 4 by omega]
  iexact HB1

/-- Every trip takes the state before it to the state after it. -/
theorem trip_step (hp : PreOK m) (q : PosShare TreeShare) (O : CellTallies nD τ sig (HIx 1)) (W : Waits sig (HIx 1)) (v29 v215 : BitVec 32)
    (hv : v29 = baseWord L) (hw : k0_chk4 L v215) (t : Fin k0_t1_loop.trips) (acc : BitVec 32) :
    inv m d L q O W t.val acc ⊢ wp frame (wpE (defs₀ (F := F)) 𝒱₀ (VT d L) none) Set.univ (tripBody L v29 v215 hw t acc)
      (inv m d L q O W (t.val + 1)) := by
  have ht : t.val < 24 := trips_eq ▸ t.isLt
  rcases Nat.eq_zero_or_pos t.val with h | h
  · exact trip_first m d L hp q O W v29 v215 hv hw t acc h
  · rcases Nat.lt_or_ge t.val 23 with h' | h'
    · exact trip_mid m d L hp q O W v29 v215 hv hw t acc h h'
    · exact trip_last m d L hp q O W v29 v215 hv hw t acc (by omega)

end Cert.Proof.Chan
-- ==== Proof.Tile.lean ====
/-
  A tile's whole run: it copies the permutation in, starts the first four fetches, makes its 24 trips and waits for the last
  eight copies out. Its part of the result is then the wanted one.
-/
module

public import proofs.«01_k».proof.Proof.Trip

@[expose] public section

noncomputable section

namespace Cert.Proof.Chan

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

open Idealize.ShloMosaic.SparseCore.ProtocolKit

variable {F : FTy → Type} [FloatOps F]
local notation "𝕄" => MT nD τ sig (HIx 1) (Elt F) ℕ UU ℕ
variable (m : (ℓ : Loc nD τ sig) → Buf (Elt F) ℓ)
variable (d : Dev nD) (L : grid0.Coords)

/-- The eight read shares of the argument. -/
def toksP (q : PosShare TreeShare) : sProp 𝕄 :=
  iprop(tokZ m d L q 0 ∗ tokZ m d L q 1 ∗ tokZ m d L q 2 ∗ tokZ m d L q 3 ∗ tokZ m d L q 4 ∗ tokZ m d L q 5 ∗ tokZ m d L q 6 ∗ tokZ m d L q 7)
/-- The tile's seventeen semaphores at rest. -/
def cellsP : sProp 𝕄 :=
  iprop(cell0 d L 0 ∗ cell0 d L 1 ∗ cell0 d L 2 ∗ cell0 d L 3 ∗ cell0 d L 4 ∗ cell0 d L 5 ∗ cell0 d L 6 ∗ cell0 d L 7 ∗ cell0 d L 8 ∗ cell0 d L 9 ∗ cell0 d L 10 ∗ cell0 d L 11 ∗ cell0 d L 12 ∗ cell0 d L 13 ∗ cell0 d L 14 ∗ cell0 d L 15 ∗ cell0 d L 16)
/-- The eight slots, at whatever they hold. -/
def slotsP : sProp 𝕄 :=
  iprop((∃ b, slotP d L 0 b) ∗ (∃ b, slotP d L 1 b) ∗ (∃ b, slotP d L 2 b) ∗ (∃ b, slotP d L 3 b) ∗ (∃ b, slotP d L 4 b) ∗ (∃ b, slotP d L 5 b) ∗ (∃ b, slotP d L 6 b) ∗ (∃ b, slotP d L 7 b))

omit [FloatOps F] in
/-- The buffer of words after the permutation has landed in it. -/
theorem perm_landed (g : Buf (Elt F) ((lV).view.loc (VT d L))) (pay : S96.Idx → Elt F .i32) (hpay : pay = (pV).view.read (Elt F) (m (pLoc d))) :
    (lV).view.writes (Elt F) g [⟨Rect.whole S96, pay⟩] = permBuf m d L := by
  subst hpay
  funext x
  have h := View.read_writes_whole (lV).view g ((pV).view.read (Elt F) (m (pLoc d)))
  exact congrFun h x

/-- The word that selects the source of one of the first four fetches is a channel. -/
theorem first_word (k : ℕ) (hk : k < 192) (g : Buf (Elt F) ((lV).view.loc (VT d L))) (hg : g = permBuf m d L) (u : BitVec 32)
    (hu : u = BitVec.ofNat 32 ((chan L ⟨k, hk⟩).val % 16)) (off : Fin 1 → Nat) (ho : off = ![16 * ((48 * (L 0).val + k / 4) / 16)])
    (h : ∀ a, off a + S16.size a ≤ S96.size a) :
    extractAt ![15] (scan .sum (select (cmpi .eq (iota .scVector S16 32 [0] iota_S16_d0_w32_scVector) (broadcast S16 u))
      (View.readAt (Elt F) (lV).view (Rect.unit (s := S96) off S16.size h).toLoadRect g : Vec F S16 .i32) (broadcast S16 0#32) :
      IVec S16 32)) inpos_S16_p15 = m (pLoc d) (ix1 (chan L ⟨k, hk⟩)) := by
  subst hg
  exact perm_at m d L (chan L ⟨k, hk⟩) u hu off ho h

/-- The copy of the permutation into the tile's memory, and the words computed beside it. -/
theorem perm_fetch (qp : PosShare TreeShare) (O : CellTallies nD τ sig (HIx 1)) (W : Waits sig (HIx 1))
    (g : Buf (Elt F) ((lV).view.loc (VT d L))) :
    iprop(Transfers.MayWaits (VT d L) (default : HIx 1) O ∗ ((pV).view.loc (VT d L) ↦{qp} m (pLoc d))
        ∗ ((lV).view.loc (VT d L) ↦[(lV).view.set]{fullShare} g) ∗ cell0 d L 16 ∗ owes (VT d L) O W)
      ⊢ wp frame (wpE (defs₀ (F := F)) 𝒱₀ (VT d L) none) Set.univ
          (k0_part30 L zV (Memref.isWhole_whole _) pV (Memref.isWhole_whole _) oV (Memref.isWhole_whole _)
            lV (Memref.isWhole_whole _) bV (Memref.isWhole_whole _) cc0_scratch2 cc0_scratch3 cc0_scoped0)
          fun r => iprop(⌜r.1 = baseWord L ∧ r.2.1 = baseWord L⌝ ∗ ((pV).view.loc (VT d L) ↦{qp} m (pLoc d))
            ∗ ((lV).view.loc (VT d L) ↦[(lV).view.set]{fullShare} permBuf m d L) ∗ cell0 d L 16
            ∗ owes (VT d L) O (insert (SemLoc.dma (csem 16), (default : HIx 1)) W)) := by
  iintro ⟨#Hmw, HP, HL, Hc, HO⟩
  sl_unfold [k0_part30]
  sl_exec
  sl_step
  isplitr
  · ipureintro
    refine ⟨?_, ?_⟩
    · show perm_fetch.sl.v29 L = _
      clear * -; revert L; decide +kernel
    · show perm_fetch.sl.v30 L = _
      clear * -; revert L; decide +kernel
  isplitl [HP]; · iexact HP
  isplitl [HL]
  · rw [← perm_landed m d L g _ rfl]
    iexact HL
  isplitl [Hc]; · iexact Hc
  iexact HO

/-- One of the first four fetches, as the run starts it, is the fetch of its chunk. -/
theorem fetch_first (hp : PreOK m) (q : PosShare TreeShare) (k : ℕ) (hk : k < 8) (v : BitVec 32)
    (hx : v = m (pLoc d) (ix1 (chan L ⟨k, by omega⟩)))
    (off' : Fin 4 → Nat) (ho' : off' = srcOff L k v.toNat) (h' : ∀ a, off' a + S1x1x56x224.size a ≤ S16x96x224x224.size a)
    (b : Buf (Elt F) ((VT d L).loc cc0_scratch1)) :
    iprop(Transfers.Flight countersEmb (VT d L) (SemLoc.dma (csem k (by omega))) (default : HIx 1) 401408
        iprop(slotP d L k ((slot k (slot_inb k hk)).view.writes (Elt F) b [⟨Rect.whole S56x224, (win zV off' h').view.read (Elt F) (m (zLoc d))⟩]) hk
          ∗ ((zV).view.loc (VT d L) ↦[(win zV off' h').view.set]{Transfers.shareTokN q k} m (zLoc d)))
      ∗ ((zV).view.loc (VT d L) ↦[Finset.univ \ (win zV off' h').view.set]{Transfers.shareTokN q k} m (zLoc d)))
      ⊢ gFl m d L q k k hk :=
  fetch_canon m d L q k k hk b off' h' _ (src_read m d L ⟨k, by omega⟩ hp off' (ho'.trans (by rw [hx])) h')

/-- The state after the last trip. -/
theorem inv_last (q : PosShare TreeShare) (O : CellTallies nD τ sig (HIx 1)) (W : Waits sig (HIx 1)) (acc : BitVec 32) :
    inv m d L q O W k0_t1_loop.trips acc = iprop(keepP m d L q O W
      ∗ (sFl m d L 0 184 ∗ sFl m d L 1 185 ∗ sFl m d L 2 186 ∗ sFl m d L 3 187
        ∗ (tokZ m d L q 0 ∗ tokZ m d L q 1 ∗ tokZ m d L q 2 ∗ tokZ m d L q 3)
        ∗ cell0 d L 0 ∗ cell0 d L 1 ∗ cell0 d L 2 ∗ cell0 d L 3)
      ∗ (sFl m d L 4 188 ∗ sFl m d L 5 189 ∗ sFl m d L 6 190 ∗ sFl m d L 7 191)
      ∗ ahead d L 192 (m (oLoc d)) ∗ behind d L 184 (outVal m d)) := by
  rw [trips_eq]
  unfold inv lowP highP
  rw [if_neg (by decide), if_neg (by decide), if_neg (by decide)]

set_option maxHeartbeats 8000000 in
/-- A tile's run. -/
theorem tile_run (hp : PreOK m) (q qp : PosShare TreeShare) (O : CellTallies nD τ sig (HIx 1)) (W : Waits sig (HIx 1))
    (g : Buf (Elt F) ((lV).view.loc (VT d L))) :
    iprop(Transfers.MayWaits (VT d L) (default : HIx 1) O ∗ toksP m d L q ∗ ((pV).view.loc (VT d L) ↦{qp} m (pLoc d))
        ∗ ((lV).view.loc (VT d L) ↦[(lV).view.set]{fullShare} g) ∗ slotsP d L ∗ ahead d L 0 (m (oLoc d)) ∗ cellsP d L ∗ owes (VT d L) O W)
      ⊢ wp frame (wpE (defs₀ (F := F)) 𝒱₀ (VT d L) none) Set.univ
          (cc0_sc_copy L zV (Memref.isWhole_whole _) pV (Memref.isWhole_whole _) oV (Memref.isWhole_whole _)
            lV (Memref.isWhole_whole _) bV (Memref.isWhole_whole _) cc0_scratch2 cc0_scratch3 cc0_scoped0)
          fun _ => iprop(toksP m d L q ∗ ((pV).view.loc (VT d L) ↦{qp} m (pLoc d))
            ∗ (∃ g, (lV).view.loc (VT d L) ↦[(lV).view.set]{fullShare} g) ∗ slotsP d L ∗ behind d L 192 (outVal m d) ∗ cellsP d L
            ∗ ∃ W', ⌜∀ p ∈ W', p ∈ W ∨ p.2 = none ∨ p.2 = some 0⌝ ∗ owes (VT d L) O W') := by
  unfold toksP slotsP cellsP
  rw [cc0_sc_copy_eq_skeleton]
  unfold cc0_sc_copy_skel
  iintro ⟨#Hmw, ⟨HZ0, HZ1, HZ2, HZ3, HZ4, HZ5, HZ6, HZ7⟩, HP, HL, ⟨⟨%b0, HB0⟩, ⟨%b1, HB1⟩, ⟨%b2, HB2⟩, ⟨%b3, HB3⟩, ⟨%b4, HB4⟩, ⟨%b5, HB5⟩, ⟨%b6, HB6⟩, ⟨%b7, HB7⟩⟩, HA, ⟨Hc0, Hc1, Hc2, Hc3, Hc4, Hc5, Hc6, Hc7, Hc8, Hc9, Hc10, Hc11, Hc12, Hc13, Hc14, Hc15, Hc16⟩, HO⟩
  rw [wp_bind]
  iapply (wp_wand_r Idealize.ShloMosaic.frame (wpE (defs₀ (F := F)) 𝒱₀ (VT d L) none) Set.univ)
  isplitl [HP HL Hc16 HO]
  · iapply (perm_fetch m d L qp O W g)
    isplitr; · iexact Hmw
    isplitl [HP]; · iexact HP
    isplitl [HL]; · iexact HL
    isplitl [Hc16]; · iexact Hc16
    iexact HO
  iintro %r ⟨%hr, HP, HL, Hc16, HO⟩
  obtain ⟨v29, v30, c16, v31, v36⟩ := r
  obtain ⟨hv, hv'⟩ := hr
  change v29 = _ at hv
  change v30 = _ at hv'
  sl_exec (disch := first
    | ((with_reducible refine chk1_of L _ ?_); exact lt_of_eq_of_lt (congrArg BitVec.toNat (first_word m d L 0 (by decide) _ rfl _ (by subst hv hv'; clear * -; revert L; decide +kernel) _ (off1_eq L) _)) (hp d _))
    | ((with_reducible refine chk2_of L _ ?_); exact lt_of_eq_of_lt (congrArg BitVec.toNat (first_word m d L 1 (by decide) _ rfl _ (by subst hv hv'; clear * -; revert L; decide +kernel) _ (off3_eq L) _)) (hp d _))
    | ((with_reducible refine chk3_of L _ ?_); exact lt_of_eq_of_lt (congrArg BitVec.toNat (first_word m d L 2 (by decide) _ rfl _ (by subst hv hv'; clear * -; revert L; decide +kernel) _ (off5_eq L) _)) (hp d _))
    | ((with_reducible refine chk4_of L _ ?_); exact lt_of_eq_of_lt (congrArg BitVec.toNat (first_word m d L 3 (by decide) _ rfl _ (by subst hv hv'; clear * -; revert L; decide +kernel) _ (off7_eq L) _)) (hp d _))
    | exact View.amount_pos _ _ (show 0 < S56x224.numel by decide))
  have hx0 : tile_run.sl.v68 m d L v30 = m (pLoc d) (ix1 (chan L ⟨0, by decide⟩)) :=
    first_word m d L 0 (by decide) _ rfl _ (by subst hv hv'; clear * -; revert L; decide +kernel) _ (off1_eq L) _
  have hx1 : tile_run.sl.v117 m d L v29 = m (pLoc d) (ix1 (chan L ⟨1, by decide⟩)) :=
    first_word m d L 1 (by decide) _ rfl _ (by subst hv hv'; clear * -; revert L; decide +kernel) _ (off3_eq L) _
  have hx2 : tile_run.sl.v166 m d L v29 = m (pLoc d) (ix1 (chan L ⟨2, by decide⟩)) :=
    first_word m d L 2 (by decide) _ rfl _ (by subst hv hv'; clear * -; revert L; decide +kernel) _ (off5_eq L) _
  have hx3 : tile_run.sl.v215 m d L v29 = m (pLoc d) (ix1 (chan L ⟨3, by decide⟩)) :=
    first_word m d L 3 (by decide) _ rfl _ (by subst hv hv'; clear * -; revert L; decide +kernel) _ (off7_eq L) _
  sl_for (inv m d L q O W) $$ [HL HZ0 HZ1 HZ2 HZ3 HZ4 HZ5 HZ6 HZ7 HB4 HB5 HB6 HB7 HA Hc0 Hc1 Hc2 Hc3 Hc4 Hc5 Hc6 Hc7 Hc8 Hc9 Hc10 Hc11 Hc12 Hc13 Hc14 Hc15 HO]
  case region =>
    intro k acc
    exact trip_step m d L hp q O W v29 0#32 hv (chk4_of L 0#32 (by decide)) k acc
  · unfold inv keepP lowP highP
    rw [if_pos (by decide), if_pos rfl, if_pos (by decide)]
    isplitl [HL HZ4 HZ5 HZ6 HZ7 Hc4 Hc5 Hc6 Hc7 HO]
    · isplitr; · iexact Hmw
      isplitl [HL]; · iexact HL
      isplitl [HZ4]; · iexact HZ4
      isplitl [HZ5]; · iexact HZ5
      isplitl [HZ6]; · iexact HZ6
      isplitl [HZ7]; · iexact HZ7
      isplitl [Hc4]; · iexact Hc4
      isplitl [Hc5]; · iexact Hc5
      isplitl [Hc6]; · iexact Hc6
      isplitl [Hc7]; · iexact Hc7
      iexists _
      isplitr
      rotate_left
      · iexact HO
      · ipureintro
        exact waits_insert _ (fun p hp => .inl hp)
    isplitl [HZ0 HZ1 HZ2 HZ3 Hc0 Hc1 Hc2 Hc3 Hc8 Hc9 Hc10 Hc11]
    · isplitl [Hc0 HZ0]
      · iapply (fetch_first m d L hp q 0 _ (tile_run.sl.v68 m d L v30) hx0 _ (off2_eq L _) _ _)
        isplitl [Hc0]; · iexact Hc0
        iexact HZ0
      isplitl [Hc1 HZ1]
      · iapply (fetch_first m d L hp q 1 _ (tile_run.sl.v117 m d L v29) hx1 _ (off4_eq L _) _ _)
        isplitl [Hc1]; · iexact Hc1
        iexact HZ1
      isplitl [Hc2 HZ2]
      · iapply (fetch_first m d L hp q 2 _ (tile_run.sl.v166 m d L v29) hx2 _ (off6_eq L _) _ _)
        isplitl [Hc2]; · iexact Hc2
        iexact HZ2
      isplitl [Hc3 HZ3]
      · iapply (fetch_first m d L hp q 3 _ (tile_run.sl.v215 m d L v29) hx3 _ (off8_eq L _) _ _)
        isplitl [Hc3]; · iexact Hc3
        iexact HZ3
      isplitl [Hc8]; · iexact Hc8
      isplitl [Hc9]; · iexact Hc9
      isplitl [Hc10]; · iexact Hc10
      iexact Hc11
    isplitl [HB4 HB5 HB6 HB7 Hc12 Hc13 Hc14 Hc15]
    · isplitl [HB4]; · iexists _; iexact HB4
      isplitl [HB5]; · iexists _; iexact HB5
      isplitl [HB6]; · iexists _; iexact HB6
      isplitl [HB7]; · iexists _; iexact HB7
      isplitl [Hc12]; · iexact Hc12
      isplitl [Hc13]; · iexact Hc13
      isplitl [Hc14]; · iexact Hc14
      iexact Hc15
    isplitl [HA]; · iexact HA
    unfold behind
    rw [show 8 * 0 - 4 = 0 from rfl, bigSep_finUpTo_zero]
    iempintro
  iintro %acc HI
  ihave HI' := (Entails.of_eq (inv_last m d L q O W acc)) $$ HI
  unfold keepP
  icases HI' with ⟨⟨-, HL, HZ4, HZ5, HZ6, HZ7, Hc4, Hc5, Hc6, Hc7, %W', %hW', HO⟩, ⟨HS0, HS1, HS2, HS3, ⟨HZ0, HZ1, HZ2, HZ3⟩, Hc0, Hc1, Hc2, Hc3⟩, ⟨HS4, HS5, HS6, HS7⟩, HA, HB⟩
  sl_exec (disch := exact View.amount_pos _ _ (show 0 < S56x224.numel by decide))
  sl_step
  isplitl [HZ0 HZ1 HZ2 HZ3 HZ4 HZ5 HZ6 HZ7]
  · isplitl [HZ0]; · iexact HZ0
    isplitl [HZ1]; · iexact HZ1
    isplitl [HZ2]; · iexact HZ2
    isplitl [HZ3]; · iexact HZ3
    isplitl [HZ4]; · iexact HZ4
    isplitl [HZ5]; · iexact HZ5
    isplitl [HZ6]; · iexact HZ6
    iexact HZ7
  isplitl [HP]; · iexact HP
  isplitl [HL]; · iexists _; iexact HL
  isplitl [HS0_src HS1_src HS2_src HS3_src HS4_src HS5_src HS6_src HS7_src]
  · isplitl [HS0_src]; · iexists _; iexact HS0_src
    isplitl [HS1_src]; · iexists _; iexact HS1_src
    isplitl [HS2_src]; · iexists _; iexact HS2_src
    isplitl [HS3_src]; · iexists _; iexact HS3_src
    isplitl [HS4_src]; · iexists _; iexact HS4_src
    isplitl [HS5_src]; · iexists _; iexact HS5_src
    isplitl [HS6_src]; · iexists _; iexact HS6_src
    iexists _; iexact HS7_src
  isplitl [HB HS0_dst HS1_dst HS2_dst HS3_dst HS4_dst HS5_dst HS6_dst HS7_dst]
  · ihave HB1 := (behind_four d L 184 (by decide) (outVal m d)) $$ [HB HS0_dst HS1_dst HS2_dst HS3_dst]
    · isplitl [HB]; · iexact HB
      isplitl [HS0_dst]; · iexact HS0_dst
      isplitl [HS1_dst]; · iexact HS1_dst
      isplitl [HS2_dst]; · iexact HS2_dst
      iexact HS3_dst
    iapply (behind_four d L 188 (by decide) (outVal m d))
    isplitl [HB1]; · iexact HB1
    isplitl [HS4_dst]; · iexact HS4_dst
    isplitl [HS5_dst]; · iexact HS5_dst
    isplitl [HS6_dst]; · iexact HS6_dst
    iexact HS7_dst
  isplitl [Hc0 Hc1 Hc2 Hc3 Hc4 Hc5 Hc6 Hc7 HS0 HS1 HS2 HS3 HS4 HS5 HS6 HS7 Hc16]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexact Hc16
  iexists _
  isplitr
  rotate_left
  · iexact HO
  · ipureintro
    repeat' apply waits_insert
    exact hW'

end Cert.Proof.Chan
-- ==== Proof.Regions.lean ====
/-
  How the arrays are dealt: the argument and the permutation as read shares, the result as the tiles' own blocks and each
  tile's blocks as its chunks, the ring's buffer as its slots.
-/
module

public import proofs.«01_k».proof.Proof.Tile

@[expose] public section

noncomputable section

namespace Cert.Proof.Chan

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

open Idealize.ShloMosaic.SparseCore.ProtocolKit

variable {F : FTy → Type} [FloatOps F]
local notation "𝕄" => MT nD τ sig (HIx 1) (Elt F) ℕ UU ℕ
variable (m : (ℓ : Loc nD τ sig) → Buf (Elt F) ℓ)

/-- Elements that a family of sets covers without overlap are held whole when each set of the family is. -/
theorem pts_family {T : Type} [Fintype T] {ℓ : Loc nD τ sig} {q : PosShare TreeShare} (S : Finset (Idx ℓ)) (N : T → Finset (Idx ℓ))
    (hc : ∀ x, x ∈ S ↔ ∃ t, x ∈ N t) (hd : ∀ t t' x, x ∈ N t → x ∈ N t' → t = t') (f : Buf (Elt F) ℓ) :
    (ℓ ↦[S]{q} f : sProp 𝕄) = bigSep Finset.univ fun t => ℓ ↦[N t]{q} f := by
  classical
  rw [← pointsTo_biUnion Finset.univ N fun t _ t' _ h => Finset.disjoint_left.mpr fun x hx hx' => h (hd t t' x hx hx')]
  congr 1
  ext x
  simp [hc x]

/-! ## The result -/

/-- What core `c` writes of the result. -/
def coreSet (c : Fin 2) : Finset S16x96x224x224.Idx := Finset.univ.filter fun y => (y 1).val / 48 = c.val
/-- What tile `i` of core `c` writes of the result. -/
def tileSet (c : Fin 2) (i : Fin 16) : Finset S16x96x224x224.Idx := Finset.univ.filter fun y => (y 1).val / 48 = c.val ∧ (y 0).val = i.val
/-- Chunk `j` of the result. -/
def chunkSet (L : grid0.Coords) (j : Fin 192) : Finset S16x96x224x224.Idx := (win oV (chunkOff L j.val) (chunk_inb L j.val j.isLt)).view.set

theorem mem_coreSet (c : Fin 2) (y : S16x96x224x224.Idx) : y ∈ coreSet c ↔ (y 1).val / 48 = c.val := by
  unfold coreSet; rw [Finset.mem_filter]; exact ⟨fun h => h.2, fun h => ⟨Finset.mem_univ _, h⟩⟩
theorem mem_tileSet (c : Fin 2) (i : Fin 16) (y : S16x96x224x224.Idx) : y ∈ tileSet c i ↔ (y 1).val / 48 = c.val ∧ (y 0).val = i.val := by
  unfold tileSet; rw [Finset.mem_filter]; exact ⟨fun h => h.2, fun h => ⟨Finset.mem_univ _, h⟩⟩
theorem mem_chunkSet (L : grid0.Coords) (j : Fin 192) (y : S16x96x224x224.Idx) :
    y ∈ chunkSet L j ↔ (y 0).val = (L 1).val ∧ (y 1).val = 48 * (L 0).val + j.val / 4 ∧ 56 * (j.val % 4) ≤ (y 2).val ∧ (y 2).val < 56 * (j.val % 4) + 56 := by
  have e : chunkSet L j = (Rect.unit (s := S16x96x224x224) (chunkOff L j.val) S1x1x56x224.size (chunk_inb L j.val j.isLt)).set := by
    show (((View.whole (main_v0_scv : Ref sig .scVector)).slice (Rect.unit (s := S16x96x224x224) (chunkOff L j.val) S1x1x56x224.size
      (chunk_inb L j.val j.isLt))).reshape S56x224 squeezes_S1x1x56x224_S56x224.numel_eq).set = _
    rw [View.set_reshape, View.set_slice]
    exact Finset.map_refl
  rw [e, Rect.mem_set_unit]
  constructor
  · intro h
    have h0 : (L 1).val ≤ (y 0).val ∧ (y 0).val < (L 1).val + 1 := h 0
    have h1 : 48 * (L 0).val + j.val / 4 ≤ (y 1).val ∧ (y 1).val < 48 * (L 0).val + j.val / 4 + 1 := h 1
    have h2 : 56 * (j.val % 4) ≤ (y 2).val ∧ (y 2).val < 56 * (j.val % 4) + 56 := h 2
    exact ⟨by omega, by omega, h2⟩
  · rintro ⟨h0, h1, h2⟩ a
    have h3 : (y 3).val < 224 := (y 3).isLt
    match a with
    | ⟨0, _⟩ => exact (show (L 1).val ≤ (y 0).val ∧ (y 0).val < (L 1).val + 1 by omega)
    | ⟨1, _⟩ => exact (show 48 * (L 0).val + j.val / 4 ≤ (y 1).val ∧ (y 1).val < 48 * (L 0).val + j.val / 4 + 1 by omega)
    | ⟨2, _⟩ => exact (show 56 * (j.val % 4) ≤ (y 2).val ∧ (y 2).val < 56 * (j.val % 4) + 56 from h2)
    | ⟨3, _⟩ => exact (show 0 ≤ (y 3).val ∧ (y 3).val < 0 + 224 by omega)

/-- The result is the cores' parts of it. -/
theorem out_cores (d : Dev nD) (f : Buf (Elt F) (oLoc d)) :
    (oLoc d ↦{fullShare} f : sProp 𝕄) = bigSep Finset.univ fun c : Fin 2 => oLoc d ↦[coreSet c]{fullShare} f :=
  pts_family (ℓ := oLoc d) Finset.univ coreSet
    (fun (y : S16x96x224x224.Idx) => ⟨fun _ => ⟨⟨(y 1).val / 48, by have h : (y 1).val < 96 := (y 1).isLt; omega⟩,
      (mem_coreSet _ y).mpr rfl⟩, fun _ => Finset.mem_univ _⟩)
    (fun c c' y h h' => Fin.ext (((mem_coreSet c y).mp h).symm.trans ((mem_coreSet c' y).mp h'))) f
/-- A core's part of the result is its tiles' parts. -/
theorem out_tiles (d : Dev nD) (c : Fin 2) (f : Buf (Elt F) (oLoc d)) :
    (oLoc d ↦[coreSet c]{fullShare} f : sProp 𝕄) = bigSep Finset.univ fun i : Fin 16 => oLoc d ↦[tileSet c i]{fullShare} f :=
  pts_family (ℓ := oLoc d) (coreSet c) (tileSet c)
    (fun (y : S16x96x224x224.Idx) => ⟨fun h => ⟨⟨(y 0).val, (y 0).isLt⟩, (mem_tileSet _ _ y).mpr ⟨(mem_coreSet c y).mp h, rfl⟩⟩,
      fun ⟨i, h⟩ => (mem_coreSet c y).mpr ((mem_tileSet c i y).mp h).1⟩)
    (fun i i' y h h' => Fin.ext (((mem_tileSet c i y).mp h).2.symm.trans ((mem_tileSet c i' y).mp h').2)) f

/-- The core of tile `L`, among two. -/
abbrev cL (L : grid0.Coords) : Fin 2 := Fin.cast rfl (L 0)
/-- The number of tile `L` in its core, among sixteen. -/
abbrev jL (L : grid0.Coords) : Fin 16 := Fin.cast rfl (L 1)

/-- A tile's part of the result is its chunks. -/
theorem out_chunks (d : Dev nD) (L : grid0.Coords) (f : Buf (Elt F) (oLoc d)) :
    (oLoc d ↦[tileSet (cL L) (jL L)]{fullShare} f : sProp 𝕄) = bigSep Finset.univ fun j : Fin 192 => chunkP d L j.val f := by
  rw [pts_family (ℓ := oLoc d) (tileSet (cL L) (jL L)) (chunkSet L)
    (fun (y : S16x96x224x224.Idx) => by
      have h1 : (y 1).val < 96 := (y 1).isLt
      have h2 : (y 2).val < 224 := (y 2).isLt
      have h0 : (L 0).val < 2 := (L 0).isLt
      refine (mem_tileSet _ _ y).trans ⟨fun h => ?_, fun ⟨j, hj⟩ => ?_⟩
      · have hc : (y 1).val / 48 = (L 0).val := h.1
        refine ⟨⟨4 * ((y 1).val % 48) + (y 2).val / 56, by omega⟩, (mem_chunkSet L _ y).mpr ⟨h.2, ?_, ?_, ?_⟩⟩
        · show (y 1).val = 48 * (L 0).val + (4 * ((y 1).val % 48) + (y 2).val / 56) / 4
          omega
        · show 56 * ((4 * ((y 1).val % 48) + (y 2).val / 56) % 4) ≤ (y 2).val
          omega
        · show (y 2).val < 56 * ((4 * ((y 1).val % 48) + (y 2).val / 56) % 4) + 56
          omega
      · have := j.isLt
        obtain ⟨e0, e1, e2⟩ := (mem_chunkSet L j y).mp hj
        exact ⟨show (y 1).val / 48 = (L 0).val by omega, e0⟩)
    (fun j j' (y : S16x96x224x224.Idx) h h' => by
      obtain ⟨-, e1, e2, e3⟩ := (mem_chunkSet L j y).mp h
      obtain ⟨-, e1', e2', e3'⟩ := (mem_chunkSet L j' y).mp h'
      exact Fin.ext (by omega)) f]
  refine bigSep_congr fun j _ => ?_
  unfold chunkP
  rw [dif_pos j.isLt]
  rfl

/-- A tile's part of the result, before it has written any chunk; -/
theorem out_ahead (d : Dev nD) (L : grid0.Coords) (f : Buf (Elt F) (oLoc d)) :
    (oLoc d ↦[tileSet (cL L) (jL L)]{fullShare} f : sProp 𝕄) = ahead d L 0 f :=
  (out_chunks d L f).trans (bigSep_finFrom_zero (n := 192) _).symm
/-- and when it has written them all. -/
theorem out_behind (d : Dev nD) (L : grid0.Coords) (f : Buf (Elt F) (oLoc d)) :
    (oLoc d ↦[tileSet (cL L) (jL L)]{fullShare} f : sProp 𝕄) = behind d L 192 f :=
  (out_chunks d L f).trans (bigSep_finUpTo_self (n := 192) _).symm

/-! ## The ring's slots -/

/-- Eight things, one by one. -/
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The elements of slot `k`. -/
def slotSet (k : Fin 8) : Finset S8x56x224.Idx := (slot k.val (slot_inb k.val k.isLt)).view.set

theorem mem_slotSet (k : Fin 8) (y : S8x56x224.Idx) : y ∈ slotSet k ↔ (y 0).val = k.val := by
  have e : slotSet k = (Rect.unit (s := S8x56x224) ![k.val, 0, 0] S1x56x224.size (slot_inb k.val k.isLt)).set := by
    show (((View.whole (cc0_scratch1 : Ref sig .scVector)).slice (Rect.unit (s := S8x56x224) ![k.val, 0, 0] S1x56x224.size
      (slot_inb k.val k.isLt))).reshape S56x224 squeezes_S1x56x224_S56x224.numel_eq).set = _
    rw [View.set_reshape, View.set_slice]
    exact Finset.map_refl
  rw [e, Rect.mem_set_unit]
  constructor
  · intro h
    have h0 : k.val ≤ (y 0).val ∧ (y 0).val < k.val + 1 := h 0
    omega
  · rintro h0 a
    have h1 : (y 1).val < 56 := (y 1).isLt
    have h2 : (y 2).val < 224 := (y 2).isLt
    match a with
    | ⟨0, _⟩ => exact (show k.val ≤ (y 0).val ∧ (y 0).val < k.val + 1 by omega)
    | ⟨1, _⟩ => exact (show 0 ≤ (y 1).val ∧ (y 1).val < 0 + 56 by omega)
    | ⟨2, _⟩ => exact (show 0 ≤ (y 2).val ∧ (y 2).val < 0 + 224 by omega)

/-- The slots are apart. -/
theorem slot_apart (k k' : Fin 8) (y : S8x56x224.Idx) (h : y ∈ slotSet k) (h' : y ∈ slotSet k') : k = k' :=
  Fin.ext (((mem_slotSet k y).mp h).symm.trans ((mem_slotSet k' y).mp h'))
/-- The slots are the whole buffer. -/
theorem slot_cover (y : S8x56x224.Idx) : ∃ k, y ∈ slotSet k := ⟨⟨(y 0).val, (y 0).isLt⟩, (mem_slotSet _ y).mpr rfl⟩

/-- The buffer cut into its slots; -/
theorem slots_split (d : Dev nD) (L : grid0.Coords) (f : Buf (Elt F) ((VT d L).loc cc0_scratch1)) :
    ((VT d L).loc cc0_scratch1 ↦{fullShare} f : sProp 𝕄) ⊢ slotsP d L := by
  rw [pts_family (ℓ := (VT d L).loc cc0_scratch1) Finset.univ slotSet (fun y => ⟨fun _ => slot_cover y, fun _ => Finset.mem_univ _⟩) slot_apart f]
  unfold slotsP
  refine BIBase.Entails.trans (bigSep_mono fun k _ => (?_ : _ ⊢ iprop(∃ b, slotP d L k.val b k.isLt))) (Entails.of_eq (bigSep_eight _))
  iintro H
  iexists f
  iexact H

/-- and joined again, whatever the slots hold. -/
theorem slots_join (d : Dev nD) (L : grid0.Coords) :
    (slotsP d L : sProp 𝕄) ⊢ iprop(∃ f, (VT d L).loc cc0_scratch1 ↦{fullShare} f) := by
  classical
  unfold slotsP
  refine BIBase.Entails.trans (Entails.of_eq (bigSep_eight fun k => iprop(∃ b, slotP d L k.val b k.isLt)).symm) ?_
  refine BIBase.Entails.trans (bigSep_exists_pi Finset.univ (fun (k : Fin 8) (f : Buf (Elt F) ((VT d L).loc cc0_scratch1)) => slotP d L k.val f k.isLt)) ?_
  iintro ⟨%fs, H⟩
  ihave H := (Entails.of_eq (show (bigSep Finset.univ fun k : Fin 8 => slotP d L k.val (fs k) k.isLt)
    = bigSep Finset.univ fun k : Fin 8 => ((VT d L).loc cc0_scratch1 ↦[slotSet k]{fullShare} fs k : sProp 𝕄) from rfl)) $$ H
  ihave H' := (pointsTo_biUnion_join (ℓ := (VT d L).loc cc0_scratch1) (q := fullShare) (Val := Elt F) Finset.univ slotSet fs (fs 0)
    fun k _ k' _ h => Finset.disjoint_left.mpr fun y hy hy' => h (slot_apart k k' y hy hy')) $$ H
  icases H' with ⟨%g, -, Hg⟩
  rw [show Finset.univ.biUnion slotSet = Finset.univ from Finset.eq_univ_of_forall fun y =>
    Finset.mem_biUnion.mpr ((slot_cover y).imp fun k h => ⟨Finset.mem_univ k, h⟩)]
  iexists g
  iexact Hg

/-! ## The read shares -/

/-- The argument's read share as the eight that the fetches use and what remains of it. -/
theorem toks_split (d : Dev nD) (L : grid0.Coords) (q : PosShare TreeShare) :
    (zLoc d ↦{q} m (zLoc d) : sProp 𝕄) ⊣⊢ iprop((zLoc d ↦{Transfers.shareDrop q 8} m (zLoc d)) ∗ toksP m d L q) := by
  have h := Transfers.pointsTo_toks (ℓ := zLoc d) (S := Finset.univ) (f := m (zLoc d)) (Ix := HIx 1) (Name := ℕ) (U := UU) (Lvl := ℕ) q 8
  rw [bigSep_eight] at h
  exact h

/-- The read share of core `c`. -/
abbrev cq (c : Fin 2) : PosShare TreeShare := Transfers.dealOf fullShare (Finset.univ : Finset (Fin 2)) c
/-- The read share of tile `i` of core `c`. -/
abbrev tq (c : Fin 2) (i : Fin 16) : PosShare TreeShare := Transfers.dealOf (cq c) (Finset.univ : Finset (Fin 16)) i

/-- An array read by both cores; -/
theorem read_cores (ℓ : Loc nD τ sig) (f : Buf (Elt F) ℓ) :
    (ℓ ↦{fullShare} f : sProp 𝕄) = bigSep Finset.univ fun c : Fin 2 => ℓ ↦{cq c} f :=
  Transfers.pointsTo_deal Finset.univ Finset.univ_nonempty fullShare
/-- and by all the tiles of a core. -/
theorem read_tiles (ℓ : Loc nD τ sig) (c : Fin 2) (f : Buf (Elt F) ℓ) :
    (ℓ ↦{cq c} f : sProp 𝕄) = bigSep Finset.univ fun i : Fin 16 => ℓ ↦{tq c i} f :=
  Transfers.pointsTo_deal Finset.univ Finset.univ_nonempty (cq c)

end Cert.Proof.Chan
-- ==== Proof.Launch.lean ====
/-
  The launch: @main hands the two cores the argument, the permutation and the result, each core hands its sixteen tiles their
  shares of them, every tile makes its run, and the pieces come back joined, the result now the wanted one. @main then writes
  its constant.
-/
module

public import proofs.«01_k».proof.Proof.Regions

@[expose] public section

noncomputable section

namespace Cert.Proof.Chan

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

open Idealize.ShloMosaic.SparseCore.ProtocolKit
open Idealize.ShloMosaic.StableHlo (held wp_hlo_within)

variable {F : FTy → Type} [FloatOps F]
local notation "𝕄" => MT nD τ sig (HIx 1) (Elt F) ℕ UU ℕ
variable (m : (ℓ : Loc nD τ sig) → Buf (Elt F) ℓ) (ρ : Dev nD → PrngReg)

/-! ## What goes to a core and to a tile, and what comes back -/

/-- A core's piece: its read shares of the argument and of the permutation, and its part of the result at `f`. -/
def coreP (d : Dev nD) (c : Fin 2) (f : Buf (Elt F) (oLoc d)) : sProp 𝕄 :=
  iprop((zLoc d ↦{cq c} m (zLoc d)) ∗ (pLoc d ↦{cq c} m (pLoc d)) ∗ (oLoc d ↦[coreSet c]{fullShare} f))
/-- A tile's piece. -/
def tileP (d : Dev nD) (c : Fin 2) (i : Fin 16) (f : Buf (Elt F) (oLoc d)) : sProp 𝕄 :=
  iprop((zLoc d ↦{tq c i} m (zLoc d)) ∗ (pLoc d ↦{tq c i} m (pLoc d)) ∗ (oLoc d ↦[tileSet c i]{fullShare} f))

instance coreP_storable (d : Dev nD) (c : Fin 2) (f : Buf (Elt F) (oLoc d)) : BI.Storable (upEmb : UEmb _ 𝕄) (coreP m d c f) := by
  unfold coreP; infer_instance
instance tileP_storable (d : Dev nD) (c : Fin 2) (i : Fin 16) (f : Buf (Elt F) (oLoc d)) : BI.Storable (upEmb : UEmb _ 𝕄) (tileP m d c i f) := by
  unfold tileP; infer_instance

/-- The three arrays whole are the cores' pieces. -/
theorem cores_eq (d : Dev nD) (f : Buf (Elt F) (oLoc d)) :
    (bigSep Finset.univ fun c : Fin 2 => coreP m d c f)
      = (iprop((zLoc d ↦{fullShare} m (zLoc d)) ∗ (pLoc d ↦{fullShare} m (pLoc d)) ∗ (oLoc d ↦{fullShare} f)) : sProp 𝕄) := by
  unfold coreP
  rw [bigSep_sep', bigSep_sep', ← read_cores, ← read_cores, ← out_cores]
/-- A core's piece is its tiles' pieces. -/
theorem tiles_eq (d : Dev nD) (c : Fin 2) (f : Buf (Elt F) (oLoc d)) :
    (bigSep Finset.univ fun i : Fin 16 => tileP m d c i f) = coreP m d c f := by
  unfold coreP tileP
  rw [bigSep_sep', bigSep_sep', ← read_tiles, ← read_tiles, ← out_tiles]

/-- What the call's handshakes carry: the result goes out at its first contents and comes back at the wanted ones. -/
def P : (K (F := F)).Pay (nD := nD) (Val := Elt F) (Name := ℕ) (U := UU) where
  st := fun q d c => match q with | 0 => coreP m d (Fin.cast nCore_zero c) (m (oLoc d))
  dn := fun q d c => match q with | 0 => coreP m d (Fin.cast nCore_zero c) (outVal m d)
  go := fun q d c i => match q with | 0 => tileP m d (Fin.cast nCore_zero c) (Fin.cast nSub_zero i) (m (oLoc d))
  td := fun q d c i => match q with | 0 => tileP m d (Fin.cast nCore_zero c) (Fin.cast nSub_zero i) (outVal m d)
  x := fun _ _ => iprop(emp)

instance P_storable : (P (F := F) m).IsStorable where
  st q d c := match q with | 0 => coreP_storable m d _ _
  dn q d c := match q with | 0 => coreP_storable m d _ _
  go q d c i := match q with | 0 => tileP_storable m d _ _ _
  td q d c i := match q with | 0 => tileP_storable m d _ _ _

/-! ## A tile's own memory and semaphores -/

section Tile

variable (d : Dev nD) (L : grid0.Coords)

/-- A tile's semaphore of number `k`, among all of the machine's. -/
abbrev dcell (k : Fin 17) : GSem nD τ sig := (VT d L, .dma (csem k.val k.isLt))

omit [FloatOps F] in
/-- A tile's own semaphores at rest: the seventeen the kernel names and the others. -/
theorem ownSems0_V :
    (ownSems0 (VT d L) : sProp 𝕄)
      = iprop(cellsP d L ∗ bigSep ((ownCells (VT d L)) \ Finset.univ.image (dcell d L)) fun g => semVal g 0) := by
  unfold SparseCore.Cfg.ownSems0
  rw [SparseCore.bigSep_sdiff_split' (t := Finset.univ.image (dcell d L)) (Finset.image_subset_iff.mpr fun k _ =>
      mem_ownCells.mpr ⟨rfl, (show ∀ s : DmaSem sig, (SemLoc.dma s : SemLoc sig).isScoped .scVector = true by decide) _⟩),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 17)) = {0, 1, 2, 3, 4, 5, 6, 7, 8, 9, 10, 11, 12, 13, 14, 15, 16} by decide]
  repeat rw [SparseCore.bigSep_insert' (by decide)]
  rw [bigSep_singleton]
  rfl

omit [FloatOps F] in
/-- A tile's own buffers: the words of the permutation, the ring, and the others. -/
theorem ownBufs_V :
    (ownBufs (VT d L) : sProp 𝕄)
      = iprop((∃ f, (VT d L).loc cc0_scratch0 ↦{fullShare} f) ∗ (∃ f, (VT d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The buffer of words, held whole. -/
theorem pts_lV (f : Buf (Elt F) ((VT d L).loc cc0_scratch0)) :
    ((lV).view.loc (VT d L) ↦[(lV).view.set]{fullShare} f : sProp 𝕄) = (VT d L).loc cc0_scratch0 ↦{fullShare} f := by
  rw [View.set_whole]

/-- A tile's task, from its piece to its piece with its part of the result the wanted one. -/
theorem tile_body (hF : (K (F := F)).Facts) (hp : PreOK m) (O : CellTallies nD τ sig (HIx 1)) (W : Waits sig (HIx 1)) (hO : ∀ g, O g none = 0) :
    iprop(levAts (K (F := F)).L (K (F := F)).lev ∗ emp ∗ tileP m d (cL L) (jL L) (m (oLoc d))
        ∗ scopedBufs (VT d L) ∗ scopedSems0 (VT d L) ∗ owes (VT d L) O W)
      ⊢ wp frame (wpE (defs₀ (F := F)) 𝒱₀ (VT d L) none) Set.univ
          (cc0_sc_copy L zV (Memref.isWhole_whole _) pV (Memref.isWhole_whole _) oV (Memref.isWhole_whole _)
            lV (Memref.isWhole_whole _) bV (Memref.isWhole_whole _) cc0_scratch2 cc0_scratch3 cc0_scoped0)
          fun _ => iprop(tileP m d (cL L) (jL L) (outVal m d) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold tileP
  rw [out_ahead d L (m (oLoc d)), out_behind d L (outVal m d)]
  iintro ⟨#Hlv, -, ⟨HZ, HP, HA⟩, ⟨⟨%g, HL⟩, ⟨%b, HB⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave HZ' := (toks_split m d L (tq (cL L) (jL L))).1 $$ HZ
  icases HZ' with ⟨HZr, HZ⟩
  ihave HL' := (Entails.of_eq (pts_lV (F := F) d L _).symm) $$ HL
  ihave HB' := (slots_split d L b) $$ HB
  iapply (wp_wand_r Idealize.ShloMosaic.frame (wpE (defs₀ (F := F)) 𝒱₀ (VT d L) none) Set.univ)
  isplitl [HZ HP HL' HB' HA HC HO]
  · iapply (tile_run m d L hp (tq (cL L) (jL L)) (tq (cL L) (jL L)) O W g)
    isplitr; · iexact Hmw
    isplitl [HZ]; · iexact HZ
    isplitl [HP]; · iexact HP
    isplitl [HL']; · iexact HL'
    isplitl [HB']; · iexact HB'
    isplitl [HA]; · iexact HA
    isplitl [HC]; · iexact HC
    iexact HO
  iintro %_ ⟨HZ, HP, ⟨%g', HL⟩, HB, HA, HC, HO⟩
  isplitl [HZr HZ HP HA]
  · isplitl [HZr HZ]
    · iapply (toks_split m d L (tq (cL L) (jL L))).2
      isplitl [HZr]; · iexact HZr
      iexact HZ
    isplitl [HP]; · iexact HP
    iexact HA
  isplitl [HL HB Hbufs]
  · isplitl [HL]; · iexists g'; iapply (Entails.of_eq (pts_lV (F := F) d L _)); iexact HL
    isplitl [HB]; · iapply (slots_join d L); iexact HB
    iexact Hbufs
  isplitl [HC Hsems]
  · isplitl [HC]; · iexact HC
    iexact Hsems
  iexact HO

/-- A tile's coordinates from its core and its number. -/
def coordsV (c : Fin (grid0.bound 0)) (s : Fin (grid0.bound 1)) : grid0.Coords :=
  fun | 0 => c | 1 => s | ⟨_ + 2, h⟩ => absurd h (Nat.not_lt.2 (Nat.le_add_left _ _))

/-- What a tile is dispatched to. -/
theorem defs₀_vector (c : Fin τ.nSC) (s : Fin τ.nSub) :
    defs₀ (F := F) (.scVector c s) 0 ()
      = SparseCore.onTile hcore0 hsub0 (fun c s => cc0_sc_copy (coordsV c s)
          zV (Memref.isWhole_whole _) pV (Memref.isWhole_whole _) oV (Memref.isWhole_whole _)
          lV (Memref.isWhole_whole _) bV (Memref.isWhole_whole _) cc0_scratch2 cc0_scratch3 cc0_scoped0) ⟨⟩ c s := rfl

/-- Every tile's task. -/
theorem tileObl (hF : (K (F := F)).Facts) (hp : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hp O W hO

end Tile

/-- A core deals its piece to its tiles and joins what they bring back. -/
theorem vecSplit : (K (F := F)).VecSplit' (P m) 0 := by
  intro d c
  show coreP m d (Fin.cast nCore_zero c) (m (oLoc d)) ⊢ |={Set.univ}=> iprop(
      (bigSep Finset.univ fun i : Fin 16 => tileP m d (Fin.cast nCore_zero c) i (m (oLoc d)))
      ∗ ((bigSep Finset.univ fun i : Fin 16 => tileP m d (Fin.cast nCore_zero c) i (outVal m d)) -∗ coreP m d (Fin.cast nCore_zero c) (outVal m d)))
  rw [tiles_eq, tiles_eq]
  iintro H
  imodintro
  isplitl [H]; · iexact H
  iintro H
  iexact H

/-! ## @main -/

/-- The ghost state the run starts from. -/
def u₀ : UU := (initOf (K (F := F)).hsCells (K (F := F)).hsToks, 1)

/-- It pays for the handshakes; nothing else is asked of it. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ : Dev nD => iprop(emp)) = (iprop(emp) : sProp 𝕄) from bigSep_emp_const _]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

omit [FloatOps F] in
/-- @main's arrays. -/
theorem unscopedBufs_eq (d : Dev nD) (W : (b : Ref sig .tc) → Buf (Elt F) ((d.tc : Thread nD τ).loc b)) :
    (unscopedBufs d W : sProp 𝕄) = iprop((zLoc d ↦{fullShare} W main_arg0) ∗ (pLoc d ↦{fullShare} W main_arg1)
      ∗ (oLoc d ↦{fullShare} W main_v0) ∗ kLoc d ↦{fullShare} W main_cst) := by
  unfold unscopedBufs
  rw [show (Finset.univ.filter fun b : Ref sig .tc => ¬ b.isScoped) = {main_arg0, main_arg1, main_v0, main_cst} by decide,
    SparseCore.bigSep_insert' (by decide), SparseCore.bigSep_insert' (by decide), SparseCore.bigSep_insert' (by decide), bigSep_singleton]

/-- What @main hands the cores, -/
theorem st0_eq (d : Dev nD) : (bigSep Finset.univ fun c : Fin ((K (F := F)).nCore 0) => (P m).st 0 d c)
    = (iprop((zLoc d ↦{fullShare} m (zLoc d)) ∗ (pLoc d ↦{fullShare} m (pLoc d)) ∗ (oLoc d ↦{fullShare} m (oLoc d))) : sProp 𝕄) :=
  cores_eq m d (m (oLoc d))
/-- and what they bring back. -/
theorem dn0_eq (d : Dev nD) : (bigSep Finset.univ fun c : Fin ((K (F := F)).nCore 0) => (P m).dn 0 d c)
    = (iprop((zLoc d ↦{fullShare} m (zLoc d)) ∗ (pLoc d ↦{fullShare} m (pLoc d)) ∗ (oLoc d ↦{fullShare} outVal m d)) : sProp 𝕄) :=
  cores_eq m d (outVal m d)

/-- The second result: zero. -/
abbrev logdet (d : Dev nD) : Buf (Elt F) (kLoc d) := constant S_ .f32 0x00000000#32
/-- The operation that writes it. -/
abbrev opCst : HloOp τ sig (Elt F) := StableHlo.nullary main_cst (constant S_ .f32 0x00000000#32)

/-- The second result's array, held alone. -/
theorem held_cst (d : Dev nD) (V : Valuation τ sig (Elt F)) :
    (held (SparseCore.T d) (opCst (F := F)).bufs V : sProp 𝕄) = kLoc d ↦{fullShare} V (Proc.tc.devRef main_cst) := by
  unfold held
  exact bigSep_singleton
/-- After the operation it is zero. -/
theorem held_cst_result (d : Dev nD) (V : Valuation τ sig (Elt F)) :
    (held (SparseCore.T d) (opCst (F := F)).bufs ((opCst (F := F)).result V) : sProp 𝕄) = kLoc d ↦{fullShare} logdet d := by
  rw [held_cst, StableHlo.nullary_result]

/-- What the run ends with on device `d`. -/
abbrev FIN (d : Dev nD) : sProp 𝕄 := iprop((zLoc d ↦{fullShare} m (zLoc d)) ∗ (pLoc d ↦{fullShare} m (pLoc d)) ∗ (oLoc d ↦{fullShare} outVal m d)
  ∗ kLoc d ↦{fullShare} logdet d)

/-- @main: the call, then the constant. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hz, Hp, Ho, Hk⟩, Hts, -⟩, -⟩
  iapply ((K (F := F)).wp_run (D (F := F)) 𝒱 (EH := EH) (P := P m) κ d 0) $$ [Hst Hz Hp Ho Hk Hb Hts]
  isplitr; · iexact Hctx
  isplitl [Hst]; · iexact Hst
  isplitl [Hz Hp Ho]
  · rw [st0_eq]
    isplitl [Hz]; · iexact Hz
    isplitl [Hp]; · iexact Hp
    iexact Ho
  iintro ⟨Hst, Hdn⟩
  ihave Hdn' := (Entails.of_eq (dn0_eq m d)) $$ Hdn
  icases Hdn' with ⟨Hz, Hp, Ho⟩
  iapply (wp_hlo_within 𝒱 (SparseCore.T d) none Set.univ (op := opCst) (S := (opCst (F := F)).bufs) subset_rfl (V := fun b => m (d, b))) $$ [Hb Hk]
  · isplitl [Hb]; · iexact Hb
    rw [held_cst]
    iexact Hk
  iintro ⟨Hb, Hheld⟩
  ihave Hk := (Entails.of_eq (held_cst_result (F := F) d _)) $$ Hheld
  rw [wp_ret]
  imodintro
  imodintro
  isplitl [Hst]; · iexact Hst
  isplitr [Hb Hts]
  · isplitl [Hz]; · iexact Hz
    isplitl [Hp]; · iexact Hp
    isplitl [Ho]; · iexact Ho
    iexact Hk
  isplitl [Hb] <;> iassumption

/-- A buffer held whole at the end of the run has those contents in the final memory. -/
theorem final_at (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro
    exact funext fun i => h i (Finset.mem_univ i)
  iexact HSI

/-- What the claims read of the final memory on device `d`. -/
def fq (d : Dev nD) (s' : Phys nD τ sig (Elt F)) : Prop :=
  s'.mem.mem (zLoc d) = m (zLoc d) ∧ s'.mem.mem (pLoc d) = m (pLoc d) ∧ s'.mem.mem (oLoc d) = outVal m d ∧ s'.mem.mem (kLoc d) = logdet d

/-- The run's end says so. -/
theorem hfin (d : Dev nD) (s' : Phys nD τ sig (Elt F)) : iprop(FIN m d ∗ SI s') ⊢ (⌜fq m d s'⌝ : sProp 𝕄) := by
  iintro ⟨⟨Hz, Hp, Ho, Hk⟩, HSI⟩
  ihave H := (final_at s' (zLoc d) _) $$ [Hz HSI]
  · isplitl [Hz] <;> iassumption
  icases H with ⟨%hz, HSI⟩
  ihave H := (final_at s' (pLoc d) _) $$ [Hp HSI]
  · isplitl [Hp] <;> iassumption
  icases H with ⟨%hp, HSI⟩
  ihave H := (final_at s' (oLoc d) _) $$ [Ho HSI]
  · isplitl [Ho] <;> iassumption
  icases H with ⟨%ho, HSI⟩
  ihave H := (final_at s' (kLoc d) _) $$ [Hk HSI]
  · isplitl [Hk] <;> iassumption
  icases H with ⟨%hk, -⟩
  ipureintro
  exact ⟨hz, hp, ho, hk⟩

/-! ## The run -/

/-- Every run of the program from `m` whose permutation names channels ends with the arguments as they were, the first result
    the permuted argument, the second zero, and every semaphore at rest. -/
theorem run_main [∀ e, Nonempty (Elt F e)] (hp : PreOK m) :
    θ_run (Cert.KernelIdeal.defs (F := F)) (Cert.KernelIdeal.threads (F := F)) ⟨m, fun _ => 0, ρ⟩
      (fun r => (∀ c : Dev nD, r.2.mem (zLoc c) = m (zLoc c) ∧ r.2.mem (pLoc c) = m (pLoc c) ∧ r.2.mem (oLoc c) = outVal m c
        ∧ r.2.mem (kLoc c) = logdet c) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hp)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h hz => ⟨h, hz⟩)

end Cert.Proof.Chan
-- ==== Proof.Reference.lean ====
/-
  The reference, read at an index: under the precondition its run ends with the argument's channels permuted.
-/
module

public import proofs.«01_k».proof.Defs
public import proofs.«01_k».proof.Proof.Gen.ReferenceIdeal
public import proofs.«01_k».proof.Proof.Gen.ReferenceIdeal.Run
public import proofs.«01_k».proof.Proof.Gen.Pre_channels
public import Idealize.ShloMosaic.Lib.StableHlo.Predicate
public import Idealize.ShloMosaic.Lib.ValueIdx

@[expose] public section

noncomputable section

namespace Cert.Proof.Take

open Cert.ReferenceIdeal Cert.ReferenceIdeal.Gen
open Idealize.ShloMosaic Idealize.ShloMosaic.ValueIdx

/-! ## Reading the precondition -/

/-- A conjunction over a set, started from true, is true exactly when every member is. -/
theorem fold_andi {ι : Type} [DecidableEq ι] (s : Finset ι) (f : ι → BitVec 1) :
    s.fold IntOp.andi 1#1 f = 1#1 ↔ ∀ i ∈ s, f i = 1#1 := by
  have two : ∀ a b : BitVec 1, IntOp.andi a b = 1#1 ↔ a = 1#1 ∧ b = 1#1 := by decide
  induction s using Finset.induction with
  | empty => simp
  | insert a s ha ih => simp only [Finset.fold_insert ha, two, Finset.forall_mem_insert]; exact and_congr_right' ih

/-- A word at least 0 and below 96 as a signed one is below 96 as a natural. -/
theorem lt_of_cmp (v : BitVec 32) (h : IntOp.andi (IntOp.cmpi .sge v 0#32) (IntOp.cmpi .slt v 96#32) = 1#1) : v.toNat < 96 := by
  have both : ∀ p q : Bool, IntOp.andi (BitVec.ofBool p) (BitVec.ofBool q) = 1#1 ↔ p = true ∧ q = true := by decide
  simp only [IntOp.cmpi, both, BitVec.sle_eq_decide, BitVec.slt_eq_decide, decide_eq_true_eq, BitVec.toInt_eq_toNat_cond,
    BitVec.toNat_ofNat, Nat.reducePow, Nat.reduceMod] at h
  omega

/-- The precondition says that every word of the permutation is below 96. -/
theorem lt_of_pre {F : FTy → Type} [FloatOps F] (z : FVec F S16x96x224x224 .f32) (p : IVec S96 32)
    (h : Cert.Pre_channels.fn (F := F) z p = fun _ => 1#1) (j : S96.Idx) : (p j).toNat < 96 := by
  have e := congrFun h (fun a => a.elim0)
  simp only [Cert.Pre_channels.fn] at e
  rw [Host.reduce_eq_fold] at e
  exact lt_of_cmp _ ((fold_andi _ _).mp e j (Finset.mem_filter.mpr ⟨Finset.mem_univ _, funext fun a => a.elim0⟩))

/-! ## The reference's value -/

variable {F : FTy → Type} [FloatOps F]

/-- The channels of `z` in the order `p` names. -/
def taken {α : Type} (z : S16x96x224x224.Idx → α) (p : IVec S96 32) : S16x96x224x224.Idx → α :=
  fun y => z (ix4 (y 0) (Fin.ofNat 96 (p (ix1 (y 1))).toNat) (y 2) (y 3))

/-- The column of start indices: the permutation, its negative words raised by 96. -/
abbrev starts (p : IVec S96 32) : IVec S96x1 32 :=
  broadcastInDim S96x1 ![0] bcast_S96_S96x1_0 (select (cmpi .slt p (broadcastInDim S96 ![] bcast_S_S96 (constantI S_ 32 0#32)))
    (addi p (broadcastInDim S96 ![] bcast_S_S96 (constantI S_ 32 96#32))) p)

/-- No word of the permutation is negative, so a start index is its word. -/
theorem starts_apply (p : IVec S96 32) (hp : ∀ j, (p j).toNat < 96) (i : S96x1.Idx) : starts p i = p (ix1 (i 0)) := by
  have e : starts p i = Scalar.select (IntOp.cmpi .slt (p (ix1 (i 0))) 0#32) (IntOp.addi (p (ix1 (i 0))) 96#32) (p (ix1 (i 0))) := by
    have col : ∀ q : IVec S96 32, broadcastInDim S96x1 ![0] bcast_S96_S96x1_0 q i = q (ix1 (i 0)) := fun q => by
      unfold broadcastInDim
      congr 1
      funext a
      obtain rfl : a = 0 := Subsingleton.elim _ _
      rfl
    rw [show starts p i = _ from col _]
    rfl
  have hv := hp (ix1 (i 0))
  rw [e]
  generalize p (ix1 (i 0)) = v at hv
  have hn : IntOp.cmpi .slt v 0#32 = 0#1 := by
    have no : ∀ b : Bool, b = false → BitVec.ofBool b = 0#1 := by decide
    refine no _ ?_
    simp only [BitVec.slt_eq_decide, decide_eq_false_iff_not, BitVec.toInt_eq_toNat_cond, BitVec.toNat_ofNat, Nat.reducePow, Nat.reduceMod]
    omega
  rw [hn]
  rfl

/-- Every start index is a channel's number. -/
theorem within (p : IVec S96 32) (hp : ∀ j, (p j).toNat < 96) (i : S96x1.Idx) :
    IntOp.andi (IntOp.cmpi .sge (starts p i) 0#32) (IntOp.cmpi .sle (starts p i) 95#32) = 1#1 := by
  rw [starts_apply p hp]
  have hv := hp (ix1 (i 0))
  generalize p (ix1 (i 0)) = v at hv
  have both : ∀ a b : Bool, a = true ∧ b = true → IntOp.andi (BitVec.ofBool a) (BitVec.ofBool b) = 1#1 := by decide
  refine both _ _ ?_
  simp only [BitVec.sle_eq_decide, decide_eq_true_eq, BitVec.toInt_eq_toNat_cond, BitVec.toNat_ofNat, Nat.reducePow, Nat.reduceMod]
  omega

/-- The reference's gather. -/
abbrev Gth := gather_S16x96x224x224_S96x1_S16x96x224x224_023_1_n_n_1_1_161224224

/-- The gather reads the named channel. -/
theorem gather_apply {α : Type} (z : S16x96x224x224.Idx → α) (p : IVec S96 32) (hp : ∀ j, (p j).toNat < 96) (y : S16x96x224x224.Idx) :
    Host.gather Gth z (starts p) y = taken z p y := by
  unfold Host.gather taken
  congr 1
  funext a
  refine Fin.ext ?_
  match a with
  | 0 => exact (Nat.zero_add _).trans rfl
  | 1 =>
    show Gth.start y (starts p) 1 + Gth.batchCoord y 1 + Gth.offCoord y 1 = (p (ix1 (y 1))).toNat % 96
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 4) ∈ Gth.startIndexMap from List.mem_singleton.mpr rfl), starts_apply p hp]
    show min (p (ix1 (y 1))).toInt.toNat (96 - 1) = _
    have hv := hp (ix1 (y 1))
    rw [StableHlo.Predicate.toInt_eq_toNat_of_lt (by omega)]
    omega
  | 2 => exact (Nat.zero_add _).trans rfl
  | 3 => exact (Nat.zero_add _).trans rfl

/-- The reference's two reads of the start indices, masked: under the precondition every channel is kept. -/
theorem value_eq (z : FVec F S16x96x224x224 .f32) (p : IVec S96 32) (hp : ∀ j, (p j).toNat < 96) :
    select (broadcastInDim S16x96x224x224 ![1] bcast_S96_S16x96x224x224_1 (Host.reduce IntOp.andi
        (andi (cmpi .sge (starts p) (broadcastInDim S96x1 ![] bcast_S_S96x1 (constantI S_ 32 0#32)))
          (cmpi .sle (starts p) (broadcastInDim S96x1 ![0, 1] bcast_S1x1_S96x1_0_1 (broadcastInDim S1x1 ![1] bcast_S1_S1x1_1 (constantI S1 32 95#32)))))
        (constantI S_ 1 1#1) reducesTo_S96x1_S96_d1 h_S_))
      (Host.gather Gth z (starts p))
      (broadcastInDim S16x96x224x224 ![] bcast_S_S16x96x224x224 (constant S_ .f32 0x7FC00000#32))
    = taken z p := by
  funext y
  have kept : ∀ j : S96.Idx, Host.reduce IntOp.andi
        (andi (cmpi .sge (starts p) (broadcastInDim S96x1 ![] bcast_S_S96x1 (constantI S_ 32 0#32)))
          (cmpi .sle (starts p) (broadcastInDim S96x1 ![0, 1] bcast_S1x1_S96x1_0_1 (broadcastInDim S1x1 ![1] bcast_S1_S1x1_1 (constantI S1 32 95#32)))))
        (constantI S_ 1 1#1) reducesTo_S96x1_S96_d1 h_S_ j = 1#1 := fun j => by
    rw [Host.reduce_eq_fold]
    exact (fold_andi _ _).mpr fun i _ => within p hp i
  rw [← gather_apply z p hp y]
  show Scalar.select (Host.reduce IntOp.andi _ _ _ _ _) _ _ = _
  rw [kept]
  rfl

end Cert.Proof.Take

end
-- ==== Proof.lean ====
/-
  The certificate: the kernel's run (Proof/Launch.lean), read at the two float instances, and the reference's (Proof/Reference.lean),
  read under the precondition, end with the same two results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_channels
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem

/-- The kernel as printed runs under the precondition, its arguments unchanged, every semaphore at rest. -/
theorem frame_kernel : Cert.quiescent_Kernel := fun m ρ hpre =>
  (θ_run (Cert.KernelIdeal.defs (F := Bits)) _ _).mono (fun _ h => ⟨fun c => ⟨(h.1 c).1, (h.1 c).2.1⟩, h.2⟩)
    (Chan.run_main (F := Bits) m ρ fun d => Take.lt_of_pre _ _ (hpre d))

/-- So does the kernel read at the ideal instance. -/
theorem frame_ideal : Cert.quiescent_KernelIdeal := fun m ρ hpre =>
  (θ_run (Cert.KernelIdeal.defs (F := Ideal)) _ _).mono (fun _ h => ⟨fun c => ⟨(h.1 c).1, (h.1 c).2.1⟩, h.2⟩)
    (Chan.run_main (F := Ideal) m ρ fun d => Take.lt_of_pre _ _ (hpre d))

/-- The reference runs from any memory, its arguments unchanged; it declares no semaphore. -/
theorem frame_reference : Cert.quiescent_ReferenceIdeal := fun m ρ _ =>
  (θ_run (Cert.ReferenceIdeal.defs (F := Ideal)) _ _).mono (fun r h => ⟨fun c => (h c).2.2, sem_eq_zero_of_no_sems (by decide) r.2⟩)
    (Cert.ReferenceIdeal.Value.run (F := Ideal) m ρ)

/-- In particular under the precondition. -/
theorem frame_reference_channels : Cert.quiescent_ReferenceIdeal_pre_channels := fun m ρ _ => frame_reference m ρ trivial

/-- From memories that agree on the arguments, kernel and reference end with the permuted argument and zero. -/
theorem algebraic : Cert.algebraic_KernelIdeal_ReferenceIdeal := fun m g m' g' hpre hagree =>
  have hp : Chan.PreOK m := fun d => Take.lt_of_pre _ _ (hpre d)
  ⟨Chan.outVal m, Chan.logdet,
    (θ_run (Cert.KernelIdeal.defs (F := Ideal)) _ _).mono
      (fun _ h c => ⟨(h.1 c).2.2.1, (h.1 c).2.2.2, (h.1 c).1, (h.1 c).2.1⟩) (Chan.run_main (F := Ideal) m g hp),
    (θ_run (Cert.ReferenceIdeal.defs (F := Ideal)) _ _).mono
      (fun _ h c => ⟨by
          rw [(h c).1, (hagree c).1, (hagree c).2]
          exact Take.value_eq (F := Ideal) _ _ (hp c), (h c).2⟩)
      (Cert.ReferenceIdeal.Value.run (F := Ideal) m' g')⟩

/-- All the claims. -/
theorem claim : Cert.Claim := ⟨Cert.Kernel.Gen.facts, Cert.KernelIdeal.Gen.facts, Cert.ReferenceIdeal.Gen.facts, Cert.Pre_channels.Gen.facts,
  frame_kernel, frame_ideal, frame_reference, frame_reference_channels, trivial, algebraic⟩

end Cert.Proof

end
